-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)

variable [Facts]

def fn {F : FTy → Type} [FloatOps F] (main_arg0 : FVec F S8x2048x3 .f32) : IVec S8x2048x3 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  main_v2
-- ==== Kernel.lean ====
abbrev S8x2048x3 : Shape := ⟨3, ![8, 2048, 3]⟩
abbrev S8x3x2048 : Shape := ⟨3, ![8, 3, 2048]⟩
abbrev S8x2x2048x32 : Shape := ⟨4, ![8, 2, 2048, 32]⟩
abbrev S1x128x3 : Shape := ⟨3, ![1, 128, 3]⟩
abbrev S1x2048x3 : Shape := ⟨3, ![1, 2048, 3]⟩
abbrev S1x3x2048 : Shape := ⟨3, ![1, 3, 2048]⟩
abbrev S1x2x128x32 : Shape := ⟨4, ![1, 2, 128, 32]⟩
abbrev S128x32 : Shape := ⟨2, ![128, 32]⟩
abbrev S1x128x1 : Shape := ⟨3, ![1, 128, 1]⟩
abbrev S128x1 : Shape := ⟨2, ![128, 1]⟩
abbrev S2048x3 : Shape := ⟨2, ![2048, 3]⟩
abbrev S1x1x2048 : Shape := ⟨3, ![1, 1, 2048]⟩
abbrev S1x2048 : Shape := ⟨2, ![1, 2048]⟩
abbrev S128x2048 : Shape := ⟨2, ![128, 2048]⟩
abbrev S128 : Shape := ⟨1, ![128]⟩
abbrev S128x3 : Shape := ⟨2, ![128, 3]⟩
abbrev S1x1x128x32 : Shape := ⟨4, ![1, 1, 128, 32]⟩

abbrev nBuf : Space → Nat
  | .hbm => 3
  | .vmem => 11
  | .smem => 0
  | _ => 0

abbrev bufTy : (tb : Table) → Fin (tcTables nBuf tb) → BufTy
  | .hbm, ⟨0, _⟩ => ⟨S8x2048x3, .f32⟩
  | .hbm, ⟨1, _⟩ => ⟨S8x3x2048, .f32⟩
  | .hbm, ⟨2, _⟩ => ⟨S8x2x2048x32, .f32⟩
  | .local _ .vmem, ⟨0, _⟩ => ⟨S1x128x3, .f32⟩
  | .local _ .vmem, ⟨1, _⟩ => ⟨S1x128x3, .f32⟩
  | .local _ .vmem, ⟨2, _⟩ => ⟨S1x2048x3, .f32⟩
  | .local _ .vmem, ⟨3, _⟩ => ⟨S1x2048x3, .f32⟩
  | .local _ .vmem, ⟨4, _⟩ => ⟨S1x3x2048, .f32⟩
  | .local _ .vmem, ⟨5, _⟩ => ⟨S1x3x2048, .f32⟩
  | .local _ .vmem, ⟨6, _⟩ => ⟨S1x2x128x32, .f32⟩
  | .local _ .vmem, ⟨7, _⟩ => ⟨S1x2x128x32, .f32⟩
  | .local _ .vmem, ⟨8, _⟩ => ⟨S128x32, .f32⟩
  | .local _ .vmem, ⟨9, _⟩ => ⟨S128x32, .f32⟩
  | .local _ .vmem, ⟨10, _⟩ => ⟨S128x32, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x3x2048 : Shape := ⟨3, ![8, 3, 2048]⟩
abbrev S8x2048x2048 : Shape := ⟨3, ![8, 2048, 2048]⟩
abbrev S8x1x2048 : Shape := ⟨3, ![8, 1, 2048]⟩
abbrev S2048x2048 : Shape := ⟨2, ![2048, 2048]⟩
abbrev S8x2048x32 : Shape := ⟨3, ![8, 2048, 32]⟩
abbrev S8x2048x32x1 : Shape := ⟨4, ![8, 2048, 32, 1]⟩
abbrev S8x2048x32x3 : Shape := ⟨4, ![8, 2048, 32, 3]⟩
abbrev S8x2048x1x3 : Shape := ⟨4, ![8, 2048, 1, 3]⟩
abbrev S8x2048x3x3 : Shape := ⟨4, ![8, 2048, 3, 3]⟩
abbrev S8x2048x1x1 : Shape := ⟨4, ![8, 2048, 1, 1]⟩
abbrev S3x3 : Shape := ⟨2, ![3, 3]⟩
abbrev S2048x3x3 : Shape := ⟨3, ![2048, 3, 3]⟩
abbrev S2048 : Shape := ⟨1, ![2048]⟩
abbrev S2048x1 : Shape := ⟨2, ![2048, 1]⟩
abbrev S2048x3 : Shape := ⟨2, ![2048, 3]⟩
abbrev S8x2048x3x1 : Shape := ⟨4, ![8, 2048, 3, 1]⟩
abbrev S8x2048x32x2 : Shape := ⟨4, ![8, 2048, 32, 2]⟩
abbrev S8x2x2048x32 : Shape := ⟨4, ![8, 2, 2048, 32]⟩

abbrev nBuf : Space → Nat
  | .hbm => 481
  | .vmem => 0
  | .smem => 0
  | _ => 0

abbrev hbmTy0_0 (i : Nat) : BufTy := match i % 128 with
  | 0 => ⟨S8x2048x3, .f32⟩
  | 1 => ⟨S8x2048x3, .f32⟩
  | 2 => ⟨S_, .f32⟩
  | 3 => ⟨S8x2048, .f32⟩
  | 4 => ⟨S8x2048x1, .f32⟩
  | 5 => ⟨S8x3x2048, .f32⟩
  | 6 => ⟨S8x2048x2048, .f32⟩
  | 7 => ⟨S_, .f32⟩
  | 8 => ⟨S8x2048x2048, .f32⟩
  | 9 => ⟨S8x2048x2048, .f32⟩
  | 10 => ⟨S8x2048x2048, .f32⟩
  | 11 => ⟨S8x2048x2048, .f32⟩
  | 12 => ⟨S8x1x2048, .f32⟩
  | 13 => ⟨S8x2048x2048, .f32⟩
  | 14 => ⟨S8x2048x2048, .f32⟩
  | 15 => ⟨S_, .f32⟩
  | 16 => ⟨S8x2048x2048, .f32⟩
  | 17 => ⟨S8x2048x2048, .f32⟩
  | 18 => ⟨S_, .f32⟩
  | 19 => ⟨S8x2048x2048, .f32⟩
  | 20 => ⟨S8x2048x2048, .f32⟩
  | 21 => ⟨S8x2048x2048, .f32⟩
  | 22 => ⟨S2048x2048, .i32⟩
  | 23 => ⟨S8x2048x2048, .i32⟩
  | 24 => ⟨S8x2048x2048, .f32⟩
  | 25 => ⟨S8x2048x2048, .i32⟩
  | 26 => ⟨S8x2048x1, .f32⟩
  | 27 => ⟨S8x2048, .f32⟩
  | 28 => ⟨S8x2048x32, .i32⟩
  | 29 => ⟨S_, .i32⟩
  | 30 => ⟨S8x2048x32, .i32⟩
  | 31 => ⟨S8x2048x32, .i1⟩
  | 32 => ⟨S_, .i32⟩
  | 33 => ⟨S8x2048x32, .i32⟩
  | 34 => ⟨S8x2048x32, .i32⟩
  | 35 => ⟨S8x2048x32, .i32⟩
  | 36 => ⟨S8x2048x32x1, .i32⟩
  | 37 => ⟨S8x2048x32x3, .f32⟩
  | 38 => ⟨S8x2048x1x3, .f32⟩
  | 39 => ⟨S8x2048x32x3, .f32⟩
  | 40 => ⟨S8x2048x32x3, .f32⟩
  | 41 => ⟨S8x2048x32x3, .f32⟩
  | 42 => ⟨S_, .f32⟩
  | 43 => ⟨S8x2048x32, .f32⟩
  | 44 => ⟨S_, .f32⟩
  | 45 => ⟨S8x2048x32, .f32⟩
  | 46 => ⟨S8x2048x32, .f32⟩
  | 47 => ⟨S8x2048x32, .f32⟩
  | 48 => ⟨S8x2048x1, .f32⟩
  | 49 => ⟨S8x2048x32, .f32⟩
  | 50 => ⟨S8x2048x32, .f32⟩
  | 51 => ⟨S8x2048x32x1, .f32⟩
  | 52 => ⟨S8x2048x32x3, .f32⟩
  | 53 => ⟨S8x2048x32x3, .f32⟩
  | 54 => ⟨S8x2048x3x3, .f32⟩
  | 55 => ⟨S_, .f32⟩
  | 56 => ⟨S8x2048, .f32⟩
  | 57 => ⟨S8x2048x1x1, .f32⟩
  | 58 => ⟨S_, .f32⟩
  | 59 => ⟨S8x2048x1x1, .f32⟩
  | 60 => ⟨S8x2048x1x1, .f32⟩
  | 61 => ⟨S8x2048x3x3, .f32⟩
  | 62 => ⟨S8x2048x3x3, .f32⟩
  | 63 => ⟨S8x2048x3x3, .f32⟩
  | 64 => ⟨S8x2048x3x3, .f32⟩
  | 65 => ⟨S_, .f32⟩
  | 66 => ⟨S8x2048x3x3, .f32⟩
  | 67 => ⟨S8x2048x3x3, .f32⟩
  | 68 => ⟨S3x3, .i32⟩
  | 69 => ⟨S3x3, .i32⟩
  | 70 => ⟨S_, .i32⟩
  | 71 => ⟨S3x3, .i32⟩
  | 72 => ⟨S3x3, .i32⟩
  | 73 => ⟨S3x3, .i1⟩
  | 74 => ⟨S3x3, .f32⟩
  | 75 => ⟨S2048x3x3, .f32⟩
  | 76 => ⟨S8x2048x3x3, .f32⟩
  | 77 => ⟨S_, .i32⟩
  | 78 => ⟨S_, .i32⟩
  | 79 => ⟨S_, .i32⟩
  | 80 => ⟨S_, .i32⟩
  | 81 => ⟨S8x2048x3x3, .f32⟩
  | 82 => ⟨S8x2048x3x3, .f32⟩
  | 83 => ⟨S8x2048x32x3, .f32⟩
  | 84 => ⟨S_, .i32⟩
  | 85 => ⟨S_, .i1⟩
  | 86 => ⟨S_, .i32⟩
  | 87 => ⟨S_, .i32⟩
  | 88 => ⟨S8x2048x1x1, .f32⟩
  | 89 => ⟨S8x2048, .f32⟩
  | 90 => ⟨S_, .f32⟩
  | 91 => ⟨S8x2048, .f32⟩
  | 92 => ⟨S8x2048, .f32⟩
  | 93 => ⟨S_, .f32⟩
  | 94 => ⟨S8x2048, .f32⟩
  | 95 => ⟨S8x2048, .i1⟩
  | 96 => ⟨S8x2048x1x1, .f32⟩
  | 97 => ⟨S8x2048, .f32⟩
  | 98 => ⟨S8x2048x1x1, .f32⟩
  | 99 => ⟨S8x2048, .f32⟩
  | 100 => ⟨S8x2048, .f32⟩
  | 101 => ⟨S_, .f32⟩
  | 102 => ⟨S_, .f32⟩
  | 103 => ⟨S2048, .f32⟩
  | 104 => ⟨S8x2048, .f32⟩
  | 105 => ⟨S8x2048, .f32⟩
  | 106 => ⟨S8x2048, .f32⟩
  | 107 => ⟨S_, .f32⟩
  | 108 => ⟨S8x2048, .f32⟩
  | 109 => ⟨S8x2048, .i1⟩
  | 110 => ⟨S_, .f32⟩
  | 111 => ⟨S_, .f32⟩
  | 112 => ⟨S2048, .f32⟩
  | 113 => ⟨S2048, .f32⟩
  | 114 => ⟨S8x2048, .f32⟩
  | 115 => ⟨S8x2048, .f32⟩
  | 116 => ⟨S8x2048, .f32⟩
  | 117 => ⟨S8x2048, .f32⟩
  | 118 => ⟨S8x2048, .f32⟩
  | 119 => ⟨S_, .f32⟩
  | 120 => ⟨S8x2048, .f32⟩
  | 121 => ⟨S8x2048, .f32⟩
  | 122 => ⟨S8x2048, .f32⟩
  | 123 => ⟨S8x2048, .f32⟩
  | 124 => ⟨S8x2048, .f32⟩
  | 125 => ⟨S8x2048, .f32⟩
  | 126 => ⟨S8x2048, .f32⟩
  | 127 => ⟨S_, .f32⟩
  | _ => ⟨S8x2048x3, .f32⟩

abbrev hbmTy0_1 (i : Nat) : BufTy := match i % 128 with
  | 0 => ⟨S8x2048, .f32⟩
  | 1 => ⟨S8x2048, .f32⟩
  | 2 => ⟨S8x2048, .f32⟩
  | 3 => ⟨S_, .f32⟩
  | 4 => ⟨S8x2048, .f32⟩
  | 5 => ⟨S8x2048, .f32⟩
  | 6 => ⟨S8x2048, .f32⟩
  | 7 => ⟨S_, .f32⟩
  | 8 => ⟨S_, .f32⟩
  | 9 => ⟨S2048, .f32⟩
  | 10 => ⟨S8x2048, .f32⟩
  | 11 => ⟨S8x2048, .f32⟩
  | 12 => ⟨S_, .f32⟩
  | 13 => ⟨S_, .f32⟩
  | 14 => ⟨S2048, .f32⟩
  | 15 => ⟨S8x2048, .f32⟩
  | 16 => ⟨S8x2048, .f32⟩
  | 17 => ⟨S_, .f32⟩
  | 18 => ⟨S2048, .f32⟩
  | 19 => ⟨S_, .f32⟩
  | 20 => ⟨S2048, .f32⟩
  | 21 => ⟨S8x2048, .f32⟩
  | 22 => ⟨S8x2048, .f32⟩
  | 23 => ⟨S8x2048x1, .f32⟩
  | 24 => ⟨S8x2048x1, .f32⟩
  | 25 => ⟨S8x2048x1, .f32⟩
  | 26 => ⟨S8x2048x3, .f32⟩
  | 27 => ⟨S2048x1, .f32⟩
  | 28 => ⟨S2048x1, .f32⟩
  | 29 => ⟨S2048x1, .f32⟩
  | 30 => ⟨S2048x3, .f32⟩
  | 31 => ⟨S8x2048, .f32⟩
  | 32 => ⟨S8x2048x1, .f32⟩
  | 33 => ⟨S8x2048x1, .f32⟩
  | 34 => ⟨S8x2048x1, .f32⟩
  | 35 => ⟨S8x2048x3, .f32⟩
  | 36 => ⟨S8x2048x3, .f32⟩
  | 37 => ⟨S8x2048x1x3, .f32⟩
  | 38 => ⟨S8x2048x1x3, .f32⟩
  | 39 => ⟨S8x2048x1x3, .f32⟩
  | 40 => ⟨S8x2048x3x3, .f32⟩
  | 41 => ⟨S8x2048x3x3, .f32⟩
  | 42 => ⟨S8x2048x3x3, .f32⟩
  | 43 => ⟨S8x2048x3x3, .f32⟩
  | 44 => ⟨S8x2048x3x3, .f32⟩
  | 45 => ⟨S8x2048x1x1, .f32⟩
  | 46 => ⟨S8x2048, .f32⟩
  | 47 => ⟨S_, .f32⟩
  | 48 => ⟨S8x2048, .f32⟩
  | 49 => ⟨S8x2048, .f32⟩
  | 50 => ⟨S_, .f32⟩
  | 51 => ⟨S8x2048, .f32⟩
  | 52 => ⟨S8x2048, .i1⟩
  | 53 => ⟨S8x2048x1x1, .f32⟩
  | 54 => ⟨S8x2048, .f32⟩
  | 55 => ⟨S8x2048x1x1, .f32⟩
  | 56 => ⟨S8x2048, .f32⟩
  | 57 => ⟨S8x2048, .f32⟩
  | 58 => ⟨S_, .f32⟩
  | 59 => ⟨S_, .f32⟩
  | 60 => ⟨S2048, .f32⟩
  | 61 => ⟨S8x2048, .f32⟩
  | 62 => ⟨S8x2048, .f32⟩
  | 63 => ⟨S8x2048, .f32⟩
  | 64 => ⟨S_, .f32⟩
  | 65 => ⟨S8x2048, .f32⟩
  | 66 => ⟨S8x2048, .i1⟩
  | 67 => ⟨S_, .f32⟩
  | 68 => ⟨S_, .f32⟩
  | 69 => ⟨S2048, .f32⟩
  | 70 => ⟨S2048, .f32⟩
  | 71 => ⟨S8x2048, .f32⟩
  | 72 => ⟨S8x2048, .f32⟩
  | 73 => ⟨S8x2048, .f32⟩
  | 74 => ⟨S8x2048, .f32⟩
  | 75 => ⟨S8x2048, .f32⟩
  | 76 => ⟨S_, .f32⟩
  | 77 => ⟨S8x2048, .f32⟩
  | 78 => ⟨S8x2048, .f32⟩
  | 79 => ⟨S8x2048, .f32⟩
  | 80 => ⟨S8x2048, .f32⟩
  | 81 => ⟨S8x2048, .f32⟩
  | 82 => ⟨S8x2048, .f32⟩
  | 83 => ⟨S8x2048, .f32⟩
  | 84 => ⟨S_, .f32⟩
  | 85 => ⟨S8x2048, .f32⟩
  | 86 => ⟨S8x2048, .f32⟩
  | 87 => ⟨S8x2048, .f32⟩
  | 88 => ⟨S_, .f32⟩
  | 89 => ⟨S8x2048, .f32⟩
  | 90 => ⟨S8x2048, .f32⟩
  | 91 => ⟨S8x2048, .f32⟩
  | 92 => ⟨S_, .f32⟩
  | 93 => ⟨S_, .f32⟩
  | 94 => ⟨S2048, .f32⟩
  | 95 => ⟨S8x2048, .f32⟩
  | 96 => ⟨S8x2048, .f32⟩
  | 97 => ⟨S_, .f32⟩
  | 98 => ⟨S_, .f32⟩
  | 99 => ⟨S2048, .f32⟩
  | 100 => ⟨S8x2048, .f32⟩
  | 101 => ⟨S8x2048, .f32⟩
  | 102 => ⟨S_, .f32⟩
  | 103 => ⟨S2048, .f32⟩
  | 104 => ⟨S_, .f32⟩
  | 105 => ⟨S2048, .f32⟩
  | 106 => ⟨S8x2048, .f32⟩
  | 107 => ⟨S2048x1, .f32⟩
  | 108 => ⟨S2048x1, .f32⟩
  | 109 => ⟨S2048x1, .f32⟩
  | 110 => ⟨S2048x3, .f32⟩
  | 111 => ⟨S8x2048, .f32⟩
  | 112 => ⟨S8x2048x1, .f32⟩
  | 113 => ⟨S8x2048x1, .f32⟩
  | 114 => ⟨S8x2048x1, .f32⟩
  | 115 => ⟨S8x2048x3, .f32⟩
  | 116 => ⟨S8x2048, .f32⟩
  | 117 => ⟨S8x2048x1, .f32⟩
  | 118 => ⟨S8x2048x1, .f32⟩
  | 119 => ⟨S8x2048x1, .f32⟩
  | 120 => ⟨S8x2048x3, .f32⟩
  | 121 => ⟨S8x2048x3, .f32⟩
  | 122 => ⟨S8x2048x1x3, .f32⟩
  | 123 => ⟨S8x2048x1x3, .f32⟩
  | 124 => ⟨S8x2048x1x3, .f32⟩
  | 125 => ⟨S8x2048x3x3, .f32⟩
  | 126 => ⟨S8x2048x3x3, .f32⟩
  | 127 => ⟨S8x2048x3x3, .f32⟩
  | _ => ⟨S8x2048x3, .f32⟩

abbrev hbmTy0_2 (i : Nat) : BufTy := match i % 128 with
  | 0 => ⟨S8x2048x3x3, .f32⟩
  | 1 => ⟨S8x2048x3x3, .f32⟩
  | 2 => ⟨S8x2048x1x1, .f32⟩
  | 3 => ⟨S8x2048, .f32⟩
  | 4 => ⟨S_, .f32⟩
  | 5 => ⟨S8x2048, .f32⟩
  | 6 => ⟨S8x2048, .f32⟩
  | 7 => ⟨S_, .f32⟩
  | 8 => ⟨S8x2048, .f32⟩
  | 9 => ⟨S8x2048, .i1⟩
  | 10 => ⟨S8x2048x1x1, .f32⟩
  | 11 => ⟨S8x2048, .f32⟩
  | 12 => ⟨S8x2048x1x1, .f32⟩
  | 13 => ⟨S8x2048, .f32⟩
  | 14 => ⟨S8x2048, .f32⟩
  | 15 => ⟨S_, .f32⟩
  | 16 => ⟨S_, .f32⟩
  | 17 => ⟨S2048, .f32⟩
  | 18 => ⟨S8x2048, .f32⟩
  | 19 => ⟨S8x2048, .f32⟩
  | 20 => ⟨S8x2048, .f32⟩
  | 21 => ⟨S_, .f32⟩
  | 22 => ⟨S8x2048, .f32⟩
  | 23 => ⟨S8x2048, .i1⟩
  | 24 => ⟨S_, .f32⟩
  | 25 => ⟨S_, .f32⟩
  | 26 => ⟨S2048, .f32⟩
  | 27 => ⟨S2048, .f32⟩
  | 28 => ⟨S8x2048, .f32⟩
  | 29 => ⟨S8x2048, .f32⟩
  | 30 => ⟨S8x2048, .f32⟩
  | 31 => ⟨S8x2048, .f32⟩
  | 32 => ⟨S8x2048, .f32⟩
  | 33 => ⟨S_, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S8x2048, .f32⟩
  | 40 => ⟨S8x2048, .f32⟩
  | 41 => ⟨S_, .f32⟩
  | 42 => ⟨S8x2048, .f32⟩
  | 43 => ⟨S8x2048, .f32⟩
  | 44 => ⟨S8x2048, .f32⟩
  | 45 => ⟨S_, .f32⟩
  | 46 => ⟨S8x2048, .f32⟩
  | 47 => ⟨S8x2048, .f32⟩
  | 48 => ⟨S8x2048, .f32⟩
  | 49 => ⟨S_, .f32⟩
  | 50 => ⟨S_, .f32⟩
  | 51 => ⟨S2048, .f32⟩
  | 52 => ⟨S8x2048, .f32⟩
  | 53 => ⟨S8x2048, .f32⟩
  | 54 => ⟨S_, .f32⟩
  | 55 => ⟨S_, .f32⟩
  | 56 => ⟨S2048, .f32⟩
  | 57 => ⟨S8x2048, .f32⟩
  | 58 => ⟨S8x2048, .f32⟩
  | 59 => ⟨S_, .f32⟩
  | 60 => ⟨S2048, .f32⟩
  | 61 => ⟨S_, .f32⟩
  | 62 => ⟨S2048, .f32⟩
  | 63 => ⟨S8x2048, .f32⟩
  | 64 => ⟨S8x2048, .f32⟩
  | 65 => ⟨S8x2048x1, .f32⟩
  | 66 => ⟨S8x2048x1, .f32⟩
  | 67 => ⟨S8x2048x1, .f32⟩
  | 68 => ⟨S8x2048x3, .f32⟩
  | 69 => ⟨S8x2048, .f32⟩
  | 70 => ⟨S8x2048x1, .f32⟩
  | 71 => ⟨S8x2048x1, .f32⟩
  | 72 => ⟨S8x2048x1, .f32⟩
  | 73 => ⟨S8x2048x3, .f32⟩
  | 74 => ⟨S2048x1, .f32⟩
  | 75 => ⟨S2048x1, .f32⟩
  | 76 => ⟨S2048x1, .f32⟩
  | 77 => ⟨S2048x3, .f32⟩
  | 78 => ⟨S8x2048x3, .f32⟩
  | 79 => ⟨S8x2048x1x3, .f32⟩
  | 80 => ⟨S8x2048x1x3, .f32⟩
  | 81 => ⟨S8x2048x1x3, .f32⟩
  | 82 => ⟨S8x2048x3x3, .f32⟩
  | 83 => ⟨S8x2048x3x3, .f32⟩
  | 84 => ⟨S8x2048x3x3, .f32⟩
  | 85 => ⟨S8x2048x3x3, .f32⟩
  | 86 => ⟨S8x2048x3x3, .f32⟩
  | 87 => ⟨S_, .i32⟩
  | 88 => ⟨S_, .i32⟩
  | 89 => ⟨S8x2048x1x1, .f32⟩
  | 90 => ⟨S8x2048, .f32⟩
  | 91 => ⟨S8x2048x1x1, .f32⟩
  | 92 => ⟨S8x2048, .f32⟩
  | 93 => ⟨S8x2048x1x1, .f32⟩
  | 94 => ⟨S8x2048, .f32⟩
  | 95 => ⟨S8x2048x1, .f32⟩
  | 96 => ⟨S8x2048x1, .f32⟩
  | 97 => ⟨S8x2048x1, .f32⟩
  | 98 => ⟨S8x2048x3, .f32⟩
  | 99 => ⟨S8x2048x1x3, .f32⟩
  | 100 => ⟨S8x2048x3x3, .f32⟩
  | 101 => ⟨S8x2048x3x3, .f32⟩
  | 102 => ⟨S8x2048x3x3, .f32⟩
  | 103 => ⟨S8x2048x3x1, .f32⟩
  | 104 => ⟨S8x2048x3, .f32⟩
  | 105 => ⟨S8x2048x32, .f32⟩
  | 106 => ⟨S_, .f32⟩
  | 107 => ⟨S8x2048x32, .f32⟩
  | 108 => ⟨S8x2048x32, .i1⟩
  | 109 => ⟨S8x2048x32, .i32⟩
  | 110 => ⟨S_, .i32⟩
  | 111 => ⟨S8x2048, .i32⟩
  | 112 => ⟨S_, .i32⟩
  | 113 => ⟨S8x2048, .i32⟩
  | 114 => ⟨S8x2048, .i32⟩
  | 115 => ⟨S_, .f32⟩
  | 116 => ⟨S2048, .f32⟩
  | 117 => ⟨S8x2048, .i1⟩
  | 118 => ⟨S_, .f32⟩
  | 119 => ⟨S2048, .f32⟩
  | 120 => ⟨S8x2048, .f32⟩
  | 121 => ⟨S8x2048, .f32⟩
  | 122 => ⟨S8x2048, .f32⟩
  | 123 => ⟨S8x2048x1, .f32⟩
  | 124 => ⟨S8x2048x3, .f32⟩
  | 125 => ⟨S8x2048x3, .f32⟩
  | 126 => ⟨S8x2048x3x1, .f32⟩
  | 127 => ⟨S8x2048x3, .f32⟩
  | _ => ⟨S8x2048x3, .f32⟩

abbrev hbmTy0_3 (i : Nat) : BufTy := match i % 128 with
  | 0 => ⟨S8x2048x32, .f32⟩
  | 1 => ⟨S_, .f32⟩
  | 2 => ⟨S8x2048x32, .f32⟩
  | 3 => ⟨S8x2048x32, .i1⟩
  | 4 => ⟨S8x2048x32, .i32⟩
  | 5 => ⟨S_, .i32⟩
  | 6 => ⟨S8x2048, .i32⟩
  | 7 => ⟨S_, .i32⟩
  | 8 => ⟨S8x2048, .i32⟩
  | 9 => ⟨S8x2048, .i32⟩
  | 10 => ⟨S_, .f32⟩
  | 11 => ⟨S2048, .f32⟩
  | 12 => ⟨S8x2048, .i1⟩
  | 13 => ⟨S_, .f32⟩
  | 14 => ⟨S2048, .f32⟩
  | 15 => ⟨S8x2048, .f32⟩
  | 16 => ⟨S8x2048, .f32⟩
  | 17 => ⟨S8x2048, .f32⟩
  | 18 => ⟨S8x2048x1, .f32⟩
  | 19 => ⟨S8x2048x3, .f32⟩
  | 20 => ⟨S8x2048x3, .f32⟩
  | 21 => ⟨S8x2048x1, .f32⟩
  | 22 => ⟨S8x2048, .f32⟩
  | 23 => ⟨S8x2048x1, .f32⟩
  | 24 => ⟨S8x2048, .f32⟩
  | 25 => ⟨S8x2048x1, .f32⟩
  | 26 => ⟨S8x2048, .f32⟩
  | 27 => ⟨S8x2048x1, .f32⟩
  | 28 => ⟨S8x2048, .f32⟩
  | 29 => ⟨S8x2048x1, .f32⟩
  | 30 => ⟨S8x2048, .f32⟩
  | 31 => ⟨S8x2048x1, .f32⟩
  | 32 => ⟨S8x2048, .f32⟩
  | 33 => ⟨S8x2048, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S8x2048, .f32⟩
  | 40 => ⟨S8x2048, .f32⟩
  | 41 => ⟨S8x2048, .f32⟩
  | 42 => ⟨S8x2048x1, .f32⟩
  | 43 => ⟨S8x2048x1, .f32⟩
  | 44 => ⟨S8x2048x1, .f32⟩
  | 45 => ⟨S8x2048x3, .f32⟩
  | 46 => ⟨S8x2048x3, .f32⟩
  | 47 => ⟨S8x2048x3, .f32⟩
  | 48 => ⟨S2048x3, .i32⟩
  | 49 => ⟨S_, .i32⟩
  | 50 => ⟨S2048x3, .i32⟩
  | 51 => ⟨S2048x3, .i1⟩
  | 52 => ⟨S_, .i32⟩
  | 53 => ⟨S2048x3, .i32⟩
  | 54 => ⟨S2048x3, .i1⟩
  | 55 => ⟨S8x2048x3, .i1⟩
  | 56 => ⟨S8x2048x3, .f32⟩
  | 57 => ⟨S8x2048x3, .i1⟩
  | 58 => ⟨S8x2048x3, .f32⟩
  | 59 => ⟨S8x2048x1x3, .f32⟩
  | 60 => ⟨S8x2048x1x3, .f32⟩
  | 61 => ⟨S8x2048x1x3, .f32⟩
  | 62 => ⟨S8x2048x3x3, .f32⟩
  | 63 => ⟨S8x2048x3x3, .f32⟩
  | 64 => ⟨S8x2048x3x3, .f32⟩
  | 65 => ⟨S2048x3x3, .i32⟩
  | 66 => ⟨S_, .i32⟩
  | 67 => ⟨S2048x3x3, .i32⟩
  | 68 => ⟨S2048x3x3, .i1⟩
  | 69 => ⟨S_, .i32⟩
  | 70 => ⟨S2048x3x3, .i32⟩
  | 71 => ⟨S2048x3x3, .i1⟩
  | 72 => ⟨S8x2048x3x3, .i1⟩
  | 73 => ⟨S8x2048x3x3, .f32⟩
  | 74 => ⟨S8x2048x3x3, .i1⟩
  | 75 => ⟨S8x2048x3x3, .f32⟩
  | 76 => ⟨S8x2048x32x3, .f32⟩
  | 77 => ⟨S8x2048x32x2, .f32⟩
  | 78 => ⟨S8x2048x32x3, .f32⟩
  | 79 => ⟨S_, .f32⟩
  | 80 => ⟨S8x2048x32, .f32⟩
  | 81 => ⟨S_, .f32⟩
  | 82 => ⟨S8x2048x32, .f32⟩
  | 83 => ⟨S8x2048x32, .f32⟩
  | 84 => ⟨S8x2048x32, .f32⟩
  | 85 => ⟨S8x2048x32x2, .f32⟩
  | 86 => ⟨S_, .f32⟩
  | 87 => ⟨S8x2048x32, .f32⟩
  | 88 => ⟨S_, .f32⟩
  | 89 => ⟨S8x2048x32, .f32⟩
  | 90 => ⟨S8x2048x32, .f32⟩
  | 91 => ⟨S8x2048x32, .f32⟩
  | 92 => ⟨S8x2048x32, .f32⟩
  | 93 => ⟨S8x2048x32x1, .f32⟩
  | 94 => ⟨S8x2048x32x2, .f32⟩
  | 95 => ⟨S8x2048x32x2, .f32⟩
  | 96 => ⟨S8x2x2048x32, .f32⟩
  | _ => ⟨S8x2048x3, .f32⟩

abbrev hbmTy (i : Nat) : BufTy := match i / 128 with
  | 0 => hbmTy0_0 i
  | 1 => hbmTy0_1 i
  | 2 => hbmTy0_2 i
  | 3 => hbmTy0_3 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_10 : Ref sig .tc := ⟨.hbm, 77, rfl⟩
abbrev main_c_11 : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_while0c_c_34 : Ref sig .tc := ⟨.hbm, 84, rfl⟩
abbrev main_while0c_v181 : Ref sig .tc := ⟨.hbm, 85, rfl⟩
abbrev main_while0b_c_34 : Ref sig .tc := ⟨.hbm, 86, rfl⟩
abbrev main_while0b_v181 : Ref sig .tc := ⟨.hbm, 87, rfl⟩
abbrev main_while0b_v182 : Ref sig .tc := ⟨.hbm, 88, rfl⟩
abbrev main_while0b_v183 : Ref sig .tc := ⟨.hbm, 89, rfl⟩
abbrev main_while0b_cst_35 : Ref sig .tc := ⟨.hbm, 90, rfl⟩
abbrev main_while0b_v184 : Ref sig .tc := ⟨.hbm, 91, rfl⟩
abbrev main_while0b_v185 : Ref sig .tc := ⟨.hbm, 92, rfl⟩
abbrev main_while0b_cst_36 : Ref sig .tc := ⟨.hbm, 93, rfl⟩
abbrev main_while0b_v186 : Ref sig .tc := ⟨.hbm, 94, rfl⟩
abbrev main_while0b_v187 : Ref sig .tc := ⟨.hbm, 95, rfl⟩
abbrev main_while0b_v188 : Ref sig .tc := ⟨.hbm, 96, rfl⟩
abbrev main_while0b_v189 : Ref sig .tc := ⟨.hbm, 97, rfl⟩
abbrev main_while0b_v190 : Ref sig .tc := ⟨.hbm, 98, rfl⟩
abbrev main_while0b_v191 : Ref sig .tc := ⟨.hbm, 99, rfl⟩
abbrev main_while0b_v192 : Ref sig .tc := ⟨.hbm, 100, rfl⟩
abbrev main_while0b_cst_37 : Ref sig .tc := ⟨.hbm, 101, rfl⟩
abbrev main_while0b_call0_v0 : Ref sig .tc := ⟨.hbm, 102, rfl⟩
abbrev main_while0b_call0_v1 : Ref sig .tc := ⟨.hbm, 103, rfl⟩
abbrev main_while0b_call0_v2 : Ref sig .tc := ⟨.hbm, 104, rfl⟩
abbrev main_while0b_v193 : Ref sig .tc := ⟨.hbm, 105, rfl⟩
abbrev main_while0b_v194 : Ref sig .tc := ⟨.hbm, 106, rfl⟩
abbrev main_while0b_cst_38 : Ref sig .tc := ⟨.hbm, 107, rfl⟩
abbrev main_while0b_v195 : Ref sig .tc := ⟨.hbm, 108, rfl⟩
abbrev main_while0b_v196 : Ref sig .tc := ⟨.hbm, 109, rfl⟩
abbrev main_while0b_cst_39 : Ref sig .tc := ⟨.hbm, 110, rfl⟩
abbrev main_while0b_cst_40 : Ref sig .tc := ⟨.hbm, 111, rfl⟩
abbrev main_while0b_call1_v0 : Ref sig .tc := ⟨.hbm, 112, rfl⟩
abbrev main_while0b_call1_v1 : Ref sig .tc := ⟨.hbm, 113, rfl⟩
abbrev main_while0b_call1_v2 : Ref sig .tc := ⟨.hbm, 114, rfl⟩
abbrev main_while0b_call1_v3 : Ref sig .tc := ⟨.hbm, 115, rfl⟩
abbrev main_while0b_v197 : Ref sig .tc := ⟨.hbm, 116, rfl⟩
abbrev main_while0b_v198 : Ref sig .tc := ⟨.hbm, 117, rfl⟩
abbrev main_while0b_v199 : Ref sig .tc := ⟨.hbm, 118, rfl⟩
abbrev main_while0b_cst_41 : Ref sig .tc := ⟨.hbm, 119, rfl⟩
abbrev main_while0b_v200 : Ref sig .tc := ⟨.hbm, 120, rfl⟩
abbrev main_while0b_v201 : Ref sig .tc := ⟨.hbm, 121, rfl⟩
abbrev main_while0b_v202 : Ref sig .tc := ⟨.hbm, 122, rfl⟩
abbrev main_while0b_v203 : Ref sig .tc := ⟨.hbm, 123, rfl⟩
abbrev main_while0b_v204 : Ref sig .tc := ⟨.hbm, 124, rfl⟩
abbrev main_while0b_v205 : Ref sig .tc := ⟨.hbm, 125, rfl⟩
abbrev main_while0b_v206 : Ref sig .tc := ⟨.hbm, 126, rfl⟩
abbrev main_while0b_cst_42 : Ref sig .tc := ⟨.hbm, 127, rfl⟩
abbrev main_while0b_v207 : Ref sig .tc := ⟨.hbm, 128, rfl⟩
abbrev main_while0b_v208 : Ref sig .tc := ⟨.hbm, 129, rfl⟩
abbrev main_while0b_v209 : Ref sig .tc := ⟨.hbm, 130, rfl⟩
abbrev main_while0b_cst_43 : Ref sig .tc := ⟨.hbm, 131, rfl⟩
abbrev main_while0b_v210 : Ref sig .tc := ⟨.hbm, 132, rfl⟩
abbrev main_while0b_v211 : Ref sig .tc := ⟨.hbm, 133, rfl⟩
abbrev main_while0b_v212 : Ref sig .tc := ⟨.hbm, 134, rfl⟩
abbrev main_while0b_cst_44 : Ref sig .tc := ⟨.hbm, 135, rfl⟩
abbrev main_while0b_call2_v0 : Ref sig .tc := ⟨.hbm, 136, rfl⟩
abbrev main_while0b_call2_v1 : Ref sig .tc := ⟨.hbm, 137, rfl⟩
abbrev main_while0b_call2_v2 : Ref sig .tc := ⟨.hbm, 138, rfl⟩
abbrev main_while0b_v213 : Ref sig .tc := ⟨.hbm, 139, rfl⟩
abbrev main_while0b_cst_45 : Ref sig .tc := ⟨.hbm, 140, rfl⟩
abbrev main_while0b_call3_v0 : Ref sig .tc := ⟨.hbm, 141, rfl⟩
abbrev main_while0b_call3_v1 : Ref sig .tc := ⟨.hbm, 142, rfl⟩
abbrev main_while0b_call3_v2 : Ref sig .tc := ⟨.hbm, 143, rfl⟩
abbrev main_while0b_v214 : Ref sig .tc := ⟨.hbm, 144, rfl⟩
abbrev main_while0b_cst_46 : Ref sig .tc := ⟨.hbm, 145, rfl⟩
abbrev main_while0b_v215 : Ref sig .tc := ⟨.hbm, 146, rfl⟩
abbrev main_while0b_cst_47 : Ref sig .tc := ⟨.hbm, 147, rfl⟩
abbrev main_while0b_v216 : Ref sig .tc := ⟨.hbm, 148, rfl⟩
abbrev main_while0b_v217 : Ref sig .tc := ⟨.hbm, 149, rfl⟩
abbrev main_while0b_v218 : Ref sig .tc := ⟨.hbm, 150, rfl⟩
abbrev main_while0b_v219 : Ref sig .tc := ⟨.hbm, 151, rfl⟩
abbrev main_while0b_v220 : Ref sig .tc := ⟨.hbm, 152, rfl⟩
abbrev main_while0b_v221 : Ref sig .tc := ⟨.hbm, 153, rfl⟩
abbrev main_while0b_v222 : Ref sig .tc := ⟨.hbm, 154, rfl⟩
abbrev main_while0b_v223 : Ref sig .tc := ⟨.hbm, 155, rfl⟩
abbrev main_while0b_v224 : Ref sig .tc := ⟨.hbm, 156, rfl⟩
abbrev main_while0b_v225 : Ref sig .tc := ⟨.hbm, 157, rfl⟩
abbrev main_while0b_v226 : Ref sig .tc := ⟨.hbm, 158, rfl⟩
abbrev main_while0b_v227 : Ref sig .tc := ⟨.hbm, 159, rfl⟩
abbrev main_while0b_v228 : Ref sig .tc := ⟨.hbm, 160, rfl⟩
abbrev main_while0b_v229 : Ref sig .tc := ⟨.hbm, 161, rfl⟩
abbrev main_while0b_v230 : Ref sig .tc := ⟨.hbm, 162, rfl⟩
abbrev main_while0b_v231 : Ref sig .tc := ⟨.hbm, 163, rfl⟩
abbrev main_while0b_v232 : Ref sig .tc := ⟨.hbm, 164, rfl⟩
abbrev main_while0b_v233 : Ref sig .tc := ⟨.hbm, 165, rfl⟩
abbrev main_while0b_v234 : Ref sig .tc := ⟨.hbm, 166, rfl⟩
abbrev main_while0b_v235 : Ref sig .tc := ⟨.hbm, 167, rfl⟩
abbrev main_while0b_v236 : Ref sig .tc := ⟨.hbm, 168, rfl⟩
abbrev main_while0b_v237 : Ref sig .tc := ⟨.hbm, 169, rfl⟩
abbrev main_while0b_v238 : Ref sig .tc := ⟨.hbm, 170, rfl⟩
abbrev main_while0b_v239 : Ref sig .tc := ⟨.hbm, 171, rfl⟩
abbrev main_while0b_v240 : Ref sig .tc := ⟨.hbm, 172, rfl⟩
abbrev main_while0b_v241 : Ref sig .tc := ⟨.hbm, 173, rfl⟩
abbrev main_while0b_v242 : Ref sig .tc := ⟨.hbm, 174, rfl⟩
abbrev main_while0b_cst_48 : Ref sig .tc := ⟨.hbm, 175, rfl⟩
abbrev main_while0b_v243 : Ref sig .tc := ⟨.hbm, 176, rfl⟩
abbrev main_while0b_v244 : Ref sig .tc := ⟨.hbm, 177, rfl⟩
abbrev main_while0b_cst_49 : Ref sig .tc := ⟨.hbm, 178, rfl⟩
abbrev main_while0b_v245 : Ref sig .tc := ⟨.hbm, 179, rfl⟩
abbrev main_while0b_v246 : Ref sig .tc := ⟨.hbm, 180, rfl⟩
abbrev main_while0b_v247 : Ref sig .tc := ⟨.hbm, 181, rfl⟩
abbrev main_while0b_v248 : Ref sig .tc := ⟨.hbm, 182, rfl⟩
abbrev main_while0b_v249 : Ref sig .tc := ⟨.hbm, 183, rfl⟩
abbrev main_while0b_v250 : Ref sig .tc := ⟨.hbm, 184, rfl⟩
abbrev main_while0b_v251 : Ref sig .tc := ⟨.hbm, 185, rfl⟩
abbrev main_while0b_cst_50 : Ref sig .tc := ⟨.hbm, 186, rfl⟩
abbrev main_while0b_call4_v0 : Ref sig .tc := ⟨.hbm, 187, rfl⟩
abbrev main_while0b_call4_v1 : Ref sig .tc := ⟨.hbm, 188, rfl⟩
abbrev main_while0b_call4_v2 : Ref sig .tc := ⟨.hbm, 189, rfl⟩
abbrev main_while0b_v252 : Ref sig .tc := ⟨.hbm, 190, rfl⟩
abbrev main_while0b_v253 : Ref sig .tc := ⟨.hbm, 191, rfl⟩
abbrev main_while0b_cst_51 : Ref sig .tc := ⟨.hbm, 192, rfl⟩
abbrev main_while0b_v254 : Ref sig .tc := ⟨.hbm, 193, rfl⟩
abbrev main_while0b_v255 : Ref sig .tc := ⟨.hbm, 194, rfl⟩
abbrev main_while0b_cst_52 : Ref sig .tc := ⟨.hbm, 195, rfl⟩
abbrev main_while0b_cst_53 : Ref sig .tc := ⟨.hbm, 196, rfl⟩
abbrev main_while0b_call5_v0 : Ref sig .tc := ⟨.hbm, 197, rfl⟩
abbrev main_while0b_call5_v1 : Ref sig .tc := ⟨.hbm, 198, rfl⟩
abbrev main_while0b_call5_v2 : Ref sig .tc := ⟨.hbm, 199, rfl⟩
abbrev main_while0b_call5_v3 : Ref sig .tc := ⟨.hbm, 200, rfl⟩
abbrev main_while0b_v256 : Ref sig .tc := ⟨.hbm, 201, rfl⟩
abbrev main_while0b_v257 : Ref sig .tc := ⟨.hbm, 202, rfl⟩
abbrev main_while0b_v258 : Ref sig .tc := ⟨.hbm, 203, rfl⟩
abbrev main_while0b_cst_54 : Ref sig .tc := ⟨.hbm, 204, rfl⟩
abbrev main_while0b_v259 : Ref sig .tc := ⟨.hbm, 205, rfl⟩
abbrev main_while0b_v260 : Ref sig .tc := ⟨.hbm, 206, rfl⟩
abbrev main_while0b_v261 : Ref sig .tc := ⟨.hbm, 207, rfl⟩
abbrev main_while0b_v262 : Ref sig .tc := ⟨.hbm, 208, rfl⟩
abbrev main_while0b_v263 : Ref sig .tc := ⟨.hbm, 209, rfl⟩
abbrev main_while0b_v264 : Ref sig .tc := ⟨.hbm, 210, rfl⟩
abbrev main_while0b_v265 : Ref sig .tc := ⟨.hbm, 211, rfl⟩
abbrev main_while0b_cst_55 : Ref sig .tc := ⟨.hbm, 212, rfl⟩
abbrev main_while0b_v266 : Ref sig .tc := ⟨.hbm, 213, rfl⟩
abbrev main_while0b_v267 : Ref sig .tc := ⟨.hbm, 214, rfl⟩
abbrev main_while0b_v268 : Ref sig .tc := ⟨.hbm, 215, rfl⟩
abbrev main_while0b_cst_56 : Ref sig .tc := ⟨.hbm, 216, rfl⟩
abbrev main_while0b_v269 : Ref sig .tc := ⟨.hbm, 217, rfl⟩
abbrev main_while0b_v270 : Ref sig .tc := ⟨.hbm, 218, rfl⟩
abbrev main_while0b_v271 : Ref sig .tc := ⟨.hbm, 219, rfl⟩
abbrev main_while0b_cst_57 : Ref sig .tc := ⟨.hbm, 220, rfl⟩
abbrev main_while0b_call6_v0 : Ref sig .tc := ⟨.hbm, 221, rfl⟩
abbrev main_while0b_call6_v1 : Ref sig .tc := ⟨.hbm, 222, rfl⟩
abbrev main_while0b_call6_v2 : Ref sig .tc := ⟨.hbm, 223, rfl⟩
abbrev main_while0b_v272 : Ref sig .tc := ⟨.hbm, 224, rfl⟩
abbrev main_while0b_cst_58 : Ref sig .tc := ⟨.hbm, 225, rfl⟩
abbrev main_while0b_call7_v0 : Ref sig .tc := ⟨.hbm, 226, rfl⟩
abbrev main_while0b_call7_v1 : Ref sig .tc := ⟨.hbm, 227, rfl⟩
abbrev main_while0b_call7_v2 : Ref sig .tc := ⟨.hbm, 228, rfl⟩
abbrev main_while0b_v273 : Ref sig .tc := ⟨.hbm, 229, rfl⟩
abbrev main_while0b_cst_59 : Ref sig .tc := ⟨.hbm, 230, rfl⟩
abbrev main_while0b_v274 : Ref sig .tc := ⟨.hbm, 231, rfl⟩
abbrev main_while0b_cst_60 : Ref sig .tc := ⟨.hbm, 232, rfl⟩
abbrev main_while0b_v275 : Ref sig .tc := ⟨.hbm, 233, rfl⟩
abbrev main_while0b_v276 : Ref sig .tc := ⟨.hbm, 234, rfl⟩
abbrev main_while0b_v277 : Ref sig .tc := ⟨.hbm, 235, rfl⟩
abbrev main_while0b_v278 : Ref sig .tc := ⟨.hbm, 236, rfl⟩
abbrev main_while0b_v279 : Ref sig .tc := ⟨.hbm, 237, rfl⟩
abbrev main_while0b_v280 : Ref sig .tc := ⟨.hbm, 238, rfl⟩
abbrev main_while0b_v281 : Ref sig .tc := ⟨.hbm, 239, rfl⟩
abbrev main_while0b_v282 : Ref sig .tc := ⟨.hbm, 240, rfl⟩
abbrev main_while0b_v283 : Ref sig .tc := ⟨.hbm, 241, rfl⟩
abbrev main_while0b_v284 : Ref sig .tc := ⟨.hbm, 242, rfl⟩
abbrev main_while0b_v285 : Ref sig .tc := ⟨.hbm, 243, rfl⟩
abbrev main_while0b_v286 : Ref sig .tc := ⟨.hbm, 244, rfl⟩
abbrev main_while0b_v287 : Ref sig .tc := ⟨.hbm, 245, rfl⟩
abbrev main_while0b_v288 : Ref sig .tc := ⟨.hbm, 246, rfl⟩
abbrev main_while0b_v289 : Ref sig .tc := ⟨.hbm, 247, rfl⟩
abbrev main_while0b_v290 : Ref sig .tc := ⟨.hbm, 248, rfl⟩
abbrev main_while0b_v291 : Ref sig .tc := ⟨.hbm, 249, rfl⟩
abbrev main_while0b_v292 : Ref sig .tc := ⟨.hbm, 250, rfl⟩
abbrev main_while0b_v293 : Ref sig .tc := ⟨.hbm, 251, rfl⟩
abbrev main_while0b_v294 : Ref sig .tc := ⟨.hbm, 252, rfl⟩
abbrev main_while0b_v295 : Ref sig .tc := ⟨.hbm, 253, rfl⟩
abbrev main_while0b_v296 : Ref sig .tc := ⟨.hbm, 254, rfl⟩
abbrev main_while0b_v297 : Ref sig .tc := ⟨.hbm, 255, rfl⟩
abbrev main_while0b_v298 : Ref sig .tc := ⟨.hbm, 256, rfl⟩
abbrev main_while0b_v299 : Ref sig .tc := ⟨.hbm, 257, rfl⟩
abbrev main_while0b_v300 : Ref sig .tc := ⟨.hbm, 258, rfl⟩
abbrev main_while0b_v301 : Ref sig .tc := ⟨.hbm, 259, rfl⟩
abbrev main_while0b_cst_61 : Ref sig .tc := ⟨.hbm, 260, rfl⟩
abbrev main_while0b_v302 : Ref sig .tc := ⟨.hbm, 261, rfl⟩
abbrev main_while0b_v303 : Ref sig .tc := ⟨.hbm, 262, rfl⟩
abbrev main_while0b_cst_62 : Ref sig .tc := ⟨.hbm, 263, rfl⟩
abbrev main_while0b_v304 : Ref sig .tc := ⟨.hbm, 264, rfl⟩
abbrev main_while0b_v305 : Ref sig .tc := ⟨.hbm, 265, rfl⟩
abbrev main_while0b_v306 : Ref sig .tc := ⟨.hbm, 266, rfl⟩
abbrev main_while0b_v307 : Ref sig .tc := ⟨.hbm, 267, rfl⟩
abbrev main_while0b_v308 : Ref sig .tc := ⟨.hbm, 268, rfl⟩
abbrev main_while0b_v309 : Ref sig .tc := ⟨.hbm, 269, rfl⟩
abbrev main_while0b_v310 : Ref sig .tc := ⟨.hbm, 270, rfl⟩
abbrev main_while0b_cst_63 : Ref sig .tc := ⟨.hbm, 271, rfl⟩
abbrev main_while0b_call8_v0 : Ref sig .tc := ⟨.hbm, 272, rfl⟩
abbrev main_while0b_call8_v1 : Ref sig .tc := ⟨.hbm, 273, rfl⟩
abbrev main_while0b_call8_v2 : Ref sig .tc := ⟨.hbm, 274, rfl⟩
abbrev main_while0b_v311 : Ref sig .tc := ⟨.hbm, 275, rfl⟩
abbrev main_while0b_v312 : Ref sig .tc := ⟨.hbm, 276, rfl⟩
abbrev main_while0b_cst_64 : Ref sig .tc := ⟨.hbm, 277, rfl⟩
abbrev main_while0b_v313 : Ref sig .tc := ⟨.hbm, 278, rfl⟩
abbrev main_while0b_v314 : Ref sig .tc := ⟨.hbm, 279, rfl⟩
abbrev main_while0b_cst_65 : Ref sig .tc := ⟨.hbm, 280, rfl⟩
abbrev main_while0b_cst_66 : Ref sig .tc := ⟨.hbm, 281, rfl⟩
abbrev main_while0b_call9_v0 : Ref sig .tc := ⟨.hbm, 282, rfl⟩
abbrev main_while0b_call9_v1 : Ref sig .tc := ⟨.hbm, 283, rfl⟩
abbrev main_while0b_call9_v2 : Ref sig .tc := ⟨.hbm, 284, rfl⟩
abbrev main_while0b_call9_v3 : Ref sig .tc := ⟨.hbm, 285, rfl⟩
abbrev main_while0b_v315 : Ref sig .tc := ⟨.hbm, 286, rfl⟩
abbrev main_while0b_v316 : Ref sig .tc := ⟨.hbm, 287, rfl⟩
abbrev main_while0b_v317 : Ref sig .tc := ⟨.hbm, 288, rfl⟩
abbrev main_while0b_cst_67 : Ref sig .tc := ⟨.hbm, 289, rfl⟩
abbrev main_while0b_v318 : Ref sig .tc := ⟨.hbm, 290, rfl⟩
abbrev main_while0b_v319 : Ref sig .tc := ⟨.hbm, 291, rfl⟩
abbrev main_while0b_v320 : Ref sig .tc := ⟨.hbm, 292, rfl⟩
abbrev main_while0b_v321 : Ref sig .tc := ⟨.hbm, 293, rfl⟩
abbrev main_while0b_v322 : Ref sig .tc := ⟨.hbm, 294, rfl⟩
abbrev main_while0b_v323 : Ref sig .tc := ⟨.hbm, 295, rfl⟩
abbrev main_while0b_v324 : Ref sig .tc := ⟨.hbm, 296, rfl⟩
abbrev main_while0b_cst_68 : Ref sig .tc := ⟨.hbm, 297, rfl⟩
abbrev main_while0b_v325 : Ref sig .tc := ⟨.hbm, 298, rfl⟩
abbrev main_while0b_v326 : Ref sig .tc := ⟨.hbm, 299, rfl⟩
abbrev main_while0b_v327 : Ref sig .tc := ⟨.hbm, 300, rfl⟩
abbrev main_while0b_cst_69 : Ref sig .tc := ⟨.hbm, 301, rfl⟩
abbrev main_while0b_v328 : Ref sig .tc := ⟨.hbm, 302, rfl⟩
abbrev main_while0b_v329 : Ref sig .tc := ⟨.hbm, 303, rfl⟩
abbrev main_while0b_v330 : Ref sig .tc := ⟨.hbm, 304, rfl⟩
abbrev main_while0b_cst_70 : Ref sig .tc := ⟨.hbm, 305, rfl⟩
abbrev main_while0b_call10_v0 : Ref sig .tc := ⟨.hbm, 306, rfl⟩
abbrev main_while0b_call10_v1 : Ref sig .tc := ⟨.hbm, 307, rfl⟩
abbrev main_while0b_call10_v2 : Ref sig .tc := ⟨.hbm, 308, rfl⟩
abbrev main_while0b_v331 : Ref sig .tc := ⟨.hbm, 309, rfl⟩
abbrev main_while0b_cst_71 : Ref sig .tc := ⟨.hbm, 310, rfl⟩
abbrev main_while0b_call11_v0 : Ref sig .tc := ⟨.hbm, 311, rfl⟩
abbrev main_while0b_call11_v1 : Ref sig .tc := ⟨.hbm, 312, rfl⟩
abbrev main_while0b_call11_v2 : Ref sig .tc := ⟨.hbm, 313, rfl⟩
abbrev main_while0b_v332 : Ref sig .tc := ⟨.hbm, 314, rfl⟩
abbrev main_while0b_cst_72 : Ref sig .tc := ⟨.hbm, 315, rfl⟩
abbrev main_while0b_v333 : Ref sig .tc := ⟨.hbm, 316, rfl⟩
abbrev main_while0b_cst_73 : Ref sig .tc := ⟨.hbm, 317, rfl⟩
abbrev main_while0b_v334 : Ref sig .tc := ⟨.hbm, 318, rfl⟩
abbrev main_while0b_v335 : Ref sig .tc := ⟨.hbm, 319, rfl⟩
abbrev main_while0b_v336 : Ref sig .tc := ⟨.hbm, 320, rfl⟩
abbrev main_while0b_v337 : Ref sig .tc := ⟨.hbm, 321, rfl⟩
abbrev main_while0b_v338 : Ref sig .tc := ⟨.hbm, 322, rfl⟩
abbrev main_while0b_v339 : Ref sig .tc := ⟨.hbm, 323, rfl⟩
abbrev main_while0b_v340 : Ref sig .tc := ⟨.hbm, 324, rfl⟩
abbrev main_while0b_v341 : Ref sig .tc := ⟨.hbm, 325, rfl⟩
abbrev main_while0b_v342 : Ref sig .tc := ⟨.hbm, 326, rfl⟩
abbrev main_while0b_v343 : Ref sig .tc := ⟨.hbm, 327, rfl⟩
abbrev main_while0b_v344 : Ref sig .tc := ⟨.hbm, 328, rfl⟩
abbrev main_while0b_v345 : Ref sig .tc := ⟨.hbm, 329, rfl⟩
abbrev main_while0b_v346 : Ref sig .tc := ⟨.hbm, 330, rfl⟩
abbrev main_while0b_v347 : Ref sig .tc := ⟨.hbm, 331, rfl⟩
abbrev main_while0b_v348 : Ref sig .tc := ⟨.hbm, 332, rfl⟩
abbrev main_while0b_v349 : Ref sig .tc := ⟨.hbm, 333, rfl⟩
abbrev main_while0b_v350 : Ref sig .tc := ⟨.hbm, 334, rfl⟩
abbrev main_while0b_v351 : Ref sig .tc := ⟨.hbm, 335, rfl⟩
abbrev main_while0b_v352 : Ref sig .tc := ⟨.hbm, 336, rfl⟩
abbrev main_while0b_v353 : Ref sig .tc := ⟨.hbm, 337, rfl⟩
abbrev main_while0b_v354 : Ref sig .tc := ⟨.hbm, 338, rfl⟩
abbrev main_while0b_v355 : Ref sig .tc := ⟨.hbm, 339, rfl⟩
abbrev main_while0b_v356 : Ref sig .tc := ⟨.hbm, 340, rfl⟩
abbrev main_while0b_v357 : Ref sig .tc := ⟨.hbm, 341, rfl⟩
abbrev main_while0b_v358 : Ref sig .tc := ⟨.hbm, 342, rfl⟩
abbrev main_while0b_c_74 : Ref sig .tc := ⟨.hbm, 343, rfl⟩
abbrev main_while0b_v359 : Ref sig .tc := ⟨.hbm, 344, rfl⟩
abbrev main_v64 : Ref sig .tc := ⟨.hbm, 345, rfl⟩
abbrev main_v65 : Ref sig .tc := ⟨.hbm, 346, rfl⟩
abbrev main_v66 : Ref sig .tc := ⟨.hbm, 347, rfl⟩
abbrev main_v67 : Ref sig .tc := ⟨.hbm, 348, rfl⟩
abbrev main_v68 : Ref sig .tc := ⟨.hbm, 349, rfl⟩
abbrev main_v69 : Ref sig .tc := ⟨.hbm, 350, rfl⟩
abbrev main_v70 : Ref sig .tc := ⟨.hbm, 351, rfl⟩
abbrev main_v71 : Ref sig .tc := ⟨.hbm, 352, rfl⟩
abbrev main_v72 : Ref sig .tc := ⟨.hbm, 353, rfl⟩
abbrev main_v73 : Ref sig .tc := ⟨.hbm, 354, rfl⟩
abbrev main_v74 : Ref sig .tc := ⟨.hbm, 355, rfl⟩
abbrev main_v75 : Ref sig .tc := ⟨.hbm, 356, rfl⟩
abbrev main_v76_0 : Ref sig .tc := ⟨.hbm, 357, rfl⟩
abbrev main_v76_1 : Ref sig .tc := ⟨.hbm, 358, rfl⟩
abbrev main_v77 : Ref sig .tc := ⟨.hbm, 359, rfl⟩
abbrev main_v78 : Ref sig .tc := ⟨.hbm, 360, rfl⟩
abbrev main_v79 : Ref sig .tc := ⟨.hbm, 361, rfl⟩
abbrev main_cst_12 : Ref sig .tc := ⟨.hbm, 362, rfl⟩
abbrev main_v80 : Ref sig .tc := ⟨.hbm, 363, rfl⟩
abbrev main_v81 : Ref sig .tc := ⟨.hbm, 364, rfl⟩
abbrev main_v82 : Ref sig .tc := ⟨.hbm, 365, rfl⟩
abbrev main_c_13 : Ref sig .tc := ⟨.hbm, 366, rfl⟩
abbrev main_v83 : Ref sig .tc := ⟨.hbm, 367, rfl⟩
abbrev main_c_14 : Ref sig .tc := ⟨.hbm, 368, rfl⟩
abbrev main_v84 : Ref sig .tc := ⟨.hbm, 369, rfl⟩
abbrev main_v85 : Ref sig .tc := ⟨.hbm, 370, rfl⟩
abbrev main_cst_15 : Ref sig .tc := ⟨.hbm, 371, rfl⟩
abbrev main_v86 : Ref sig .tc := ⟨.hbm, 372, rfl⟩
abbrev main_v87 : Ref sig .tc := ⟨.hbm, 373, rfl⟩
abbrev main_cst_16 : Ref sig .tc := ⟨.hbm, 374, rfl⟩
abbrev main_v88 : Ref sig .tc := ⟨.hbm, 375, rfl⟩
abbrev main_v89 : Ref sig .tc := ⟨.hbm, 376, rfl⟩
abbrev main_v90 : Ref sig .tc := ⟨.hbm, 377, rfl⟩
abbrev main_v91 : Ref sig .tc := ⟨.hbm, 378, rfl⟩
abbrev main_v92 : Ref sig .tc := ⟨.hbm, 379, rfl⟩
abbrev main_v93 : Ref sig .tc := ⟨.hbm, 380, rfl⟩
abbrev main_v94 : Ref sig .tc := ⟨.hbm, 381, rfl⟩
abbrev main_v95 : Ref sig .tc := ⟨.hbm, 382, rfl⟩
abbrev main_v96 : Ref sig .tc := ⟨.hbm, 383, rfl⟩
abbrev main_v97 : Ref sig .tc := ⟨.hbm, 384, rfl⟩
abbrev main_cst_17 : Ref sig .tc := ⟨.hbm, 385, rfl⟩
abbrev main_v98 : Ref sig .tc := ⟨.hbm, 386, rfl⟩
abbrev main_v99 : Ref sig .tc := ⟨.hbm, 387, rfl⟩
abbrev main_v100 : Ref sig .tc := ⟨.hbm, 388, rfl⟩
abbrev main_c_18 : Ref sig .tc := ⟨.hbm, 389, rfl⟩
abbrev main_v101 : Ref sig .tc := ⟨.hbm, 390, rfl⟩
abbrev main_c_19 : Ref sig .tc := ⟨.hbm, 391, rfl⟩
abbrev main_v102 : Ref sig .tc := ⟨.hbm, 392, rfl⟩
abbrev main_v103 : Ref sig .tc := ⟨.hbm, 393, rfl⟩
abbrev main_cst_20 : Ref sig .tc := ⟨.hbm, 394, rfl⟩
abbrev main_v104 : Ref sig .tc := ⟨.hbm, 395, rfl⟩
abbrev main_v105 : Ref sig .tc := ⟨.hbm, 396, rfl⟩
abbrev main_cst_21 : Ref sig .tc := ⟨.hbm, 397, rfl⟩
abbrev main_v106 : Ref sig .tc := ⟨.hbm, 398, rfl⟩
abbrev main_v107 : Ref sig .tc := ⟨.hbm, 399, rfl⟩
abbrev main_v108 : Ref sig .tc := ⟨.hbm, 400, rfl⟩
abbrev main_v109 : Ref sig .tc := ⟨.hbm, 401, rfl⟩
abbrev main_v110 : Ref sig .tc := ⟨.hbm, 402, rfl⟩
abbrev main_v111 : Ref sig .tc := ⟨.hbm, 403, rfl⟩
abbrev main_v112 : Ref sig .tc := ⟨.hbm, 404, rfl⟩
abbrev main_v113 : Ref sig .tc := ⟨.hbm, 405, rfl⟩
abbrev main_v114 : Ref sig .tc := ⟨.hbm, 406, rfl⟩
abbrev main_v115 : Ref sig .tc := ⟨.hbm, 407, rfl⟩
abbrev main_v116 : Ref sig .tc := ⟨.hbm, 408, rfl⟩
abbrev main_v117 : Ref sig .tc := ⟨.hbm, 409, rfl⟩
abbrev main_v118 : Ref sig .tc := ⟨.hbm, 410, rfl⟩
abbrev main_v119 : Ref sig .tc := ⟨.hbm, 411, rfl⟩
abbrev main_v120 : Ref sig .tc := ⟨.hbm, 412, rfl⟩
abbrev main_v121 : Ref sig .tc := ⟨.hbm, 413, rfl⟩
abbrev main_v122 : Ref sig .tc := ⟨.hbm, 414, rfl⟩
abbrev main_v123 : Ref sig .tc := ⟨.hbm, 415, rfl⟩
abbrev main_v124 : Ref sig .tc := ⟨.hbm, 416, rfl⟩
abbrev main_v125 : Ref sig .tc := ⟨.hbm, 417, rfl⟩
abbrev main_v126 : Ref sig .tc := ⟨.hbm, 418, rfl⟩
abbrev main_v127 : Ref sig .tc := ⟨.hbm, 419, rfl⟩
abbrev main_v128 : Ref sig .tc := ⟨.hbm, 420, rfl⟩
abbrev main_v129 : Ref sig .tc := ⟨.hbm, 421, rfl⟩
abbrev main_v130 : Ref sig .tc := ⟨.hbm, 422, rfl⟩
abbrev main_v131 : Ref sig .tc := ⟨.hbm, 423, rfl⟩
abbrev main_v132 : Ref sig .tc := ⟨.hbm, 424, rfl⟩
abbrev main_v133 : Ref sig .tc := ⟨.hbm, 425, rfl⟩
abbrev main_v134 : Ref sig .tc := ⟨.hbm, 426, rfl⟩
abbrev main_v135 : Ref sig .tc := ⟨.hbm, 427, rfl⟩
abbrev main_v136 : Ref sig .tc := ⟨.hbm, 428, rfl⟩
abbrev main_v137 : Ref sig .tc := ⟨.hbm, 429, rfl⟩
abbrev main_v138 : Ref sig .tc := ⟨.hbm, 430, rfl⟩
abbrev main_v139 : Ref sig .tc := ⟨.hbm, 431, rfl⟩
abbrev main_v140 : Ref sig .tc := ⟨.hbm, 432, rfl⟩
abbrev main_c_22 : Ref sig .tc := ⟨.hbm, 433, rfl⟩
abbrev main_v141 : Ref sig .tc := ⟨.hbm, 434, rfl⟩
abbrev main_v142 : Ref sig .tc := ⟨.hbm, 435, rfl⟩
abbrev main_c_23 : Ref sig .tc := ⟨.hbm, 436, rfl⟩
abbrev main_v143 : Ref sig .tc := ⟨.hbm, 437, rfl⟩
abbrev main_v144 : Ref sig .tc := ⟨.hbm, 438, rfl⟩
abbrev main_v145 : Ref sig .tc := ⟨.hbm, 439, rfl⟩
abbrev main_v146 : Ref sig .tc := ⟨.hbm, 440, rfl⟩
abbrev main_v147 : Ref sig .tc := ⟨.hbm, 441, rfl⟩
abbrev main_v148 : Ref sig .tc := ⟨.hbm, 442, rfl⟩
abbrev main_v149 : Ref sig .tc := ⟨.hbm, 443, rfl⟩
abbrev main_v150 : Ref sig .tc := ⟨.hbm, 444, rfl⟩
abbrev main_v151 : Ref sig .tc := ⟨.hbm, 445, rfl⟩
abbrev main_v152 : Ref sig .tc := ⟨.hbm, 446, rfl⟩
abbrev main_v153 : Ref sig .tc := ⟨.hbm, 447, rfl⟩
abbrev main_v154 : Ref sig .tc := ⟨.hbm, 448, rfl⟩
abbrev main_v155 : Ref sig .tc := ⟨.hbm, 449, rfl⟩
abbrev main_c_24 : Ref sig .tc := ⟨.hbm, 450, rfl⟩
abbrev main_v156 : Ref sig .tc := ⟨.hbm, 451, rfl⟩
abbrev main_v157 : Ref sig .tc := ⟨.hbm, 452, rfl⟩
abbrev main_c_25 : Ref sig .tc := ⟨.hbm, 453, rfl⟩
abbrev main_v158 : Ref sig .tc := ⟨.hbm, 454, rfl⟩
abbrev main_v159 : Ref sig .tc := ⟨.hbm, 455, rfl⟩
abbrev main_v160 : Ref sig .tc := ⟨.hbm, 456, rfl⟩
abbrev main_v161 : Ref sig .tc := ⟨.hbm, 457, rfl⟩
abbrev main_v162 : Ref sig .tc := ⟨.hbm, 458, rfl⟩
abbrev main_v163 : Ref sig .tc := ⟨.hbm, 459, rfl⟩
abbrev main_v164 : Ref sig .tc := ⟨.hbm, 460, rfl⟩
abbrev main_v165 : Ref sig .tc := ⟨.hbm, 461, rfl⟩
abbrev main_v166 : Ref sig .tc := ⟨.hbm, 462, rfl⟩
abbrev main_cst_26 : Ref sig .tc := ⟨.hbm, 463, rfl⟩
abbrev main_v167 : Ref sig .tc := ⟨.hbm, 464, rfl⟩
abbrev main_cst_27 : Ref sig .tc := ⟨.hbm, 465, rfl⟩
abbrev main_v168 : Ref sig .tc := ⟨.hbm, 466, rfl⟩
abbrev main_v169 : Ref sig .tc := ⟨.hbm, 467, rfl⟩
abbrev main_v170 : Ref sig .tc := ⟨.hbm, 468, rfl⟩
abbrev main_v171 : Ref sig .tc := ⟨.hbm, 469, rfl⟩
abbrev main_cst_28 : Ref sig .tc := ⟨.hbm, 470, rfl⟩
abbrev main_v172 : Ref sig .tc := ⟨.hbm, 471, rfl⟩
abbrev main_cst_29 : Ref sig .tc := ⟨.hbm, 472, rfl⟩
abbrev main_v173 : Ref sig .tc := ⟨.hbm, 473, rfl⟩
abbrev main_v174 : Ref sig .tc := ⟨.hbm, 474, rfl⟩
abbrev main_v175 : Ref sig .tc := ⟨.hbm, 475, rfl⟩
abbrev main_v176 : Ref sig .tc := ⟨.hbm, 476, rfl⟩
abbrev main_v177 : Ref sig .tc := ⟨.hbm, 477, rfl⟩
abbrev main_v178 : Ref sig .tc := ⟨.hbm, 478, rfl⟩
abbrev main_v179 : Ref sig .tc := ⟨.hbm, 479, rfl⟩
abbrev main_v180 : Ref sig .tc := ⟨.hbm, 480, rfl⟩

abbrev nD : Nat := 1
abbrev τ : Topo := Topo.v7x

variable {F : FTy → Type} [FloatOps F]

abbrev main_while0_count : Scf.Loop 32 := ⟨0#32, 10#32, 1#32⟩
-- ==== Proof.KSteps.lean ====
module

public import proofs.«01_k».proof.Proof.Gen.KernelIdeal.Value

@[expose] public section

set_option maxRecDepth 16384

noncomputable section

namespace Cert.Knn

open Cert.KernelIdeal Cert.KernelIdeal.Gen Idealize.ShloMosaic Idealize.SL.Sem

variable {F : FTy → Type} [FloatOps F]

/-! # The neighbour search of one block, step by step

The body finds thirty-two neighbours one after another. This module names the step and shows that the values the body
stores are the iterated step's. -/

/-- The column numbers along the rows of a block of distances. -/
def cols : IVec S128x2048 32 := iota .tc S128x2048 32 [1] iota_S128x2048_d1_w32

/-- Each row's minimum. -/
def low (d : FVec F S128x2048 .f32) : FVec F S128x1 .f32 :=
  shapeCast S128x1 (multiReduction .minimumf [1] S128 d 0x7F800000#32 reduces_S128x2048_S128 (.inl rfl) rfl) shapeCasts_S128_S128x1

/-- Each row's lowest column that holds the minimum. -/
def lowAt (d : FVec F S128x2048 .f32) : IVec S128x1 32 :=
  shapeCast S128x1 (multiReductionI .minsi [1] S128
    (select (cmpf .oeq d (broadcastTo S128x2048 (low d) broadcasts_S128x1_S128x2048)) cols (broadcast S128x2048 2048#32))
    2147483647#32 reduces_S128x2048_S128 rfl) shapeCasts_S128_S128x1

/-- The place of that column, one per row. -/
def hit (d : FVec F S128x2048 .f32) : IVec S128x2048 1 :=
  cmpi .eq cols (broadcastTo S128x2048 (lowAt d) broadcasts_S128x1_S128x2048)

/-- The distances with that place put to plus infinity. -/
def knock (d : FVec F S128x2048 .f32) : FVec F S128x2048 .f32 :=
  select (hit d) (broadcast S128x2048 (Scalar.ofBits .f32 0x7F800000#32)) d

/-- The distances after `k` steps. -/
def knocked (d : FVec F S128x2048 .f32) : ℕ → FVec F S128x2048 .f32
  | 0 => d
  | k + 1 => knock (knocked d k)

/-- The row of the table at each row's place. -/
def grab (tab : FVec F S2048x3 .f32) (d : FVec F S128x2048 .f32) : FVec F S128x3 .f32 :=
  matmul dot_S128x2048_S2048x3_S128x3_1_0_0_1_n_n (some .fp32) (sitofp .f32 (extui 32 (hit d) natLt_1_32)) tab (constant S128x3 .f32 0x00000000#32)

/-- One coordinate of the found points, less the block's own points' coordinate `ctr`. -/
def column (q : ℕ) (hq : S128x3.Slices ![0, q] S128x1) (ctr : FVec F S128x1 .f32) (tab : FVec F S2048x3 .f32)
    (d : FVec F S128x2048 .f32) : FVec F S128x1 .f32 :=
  shapeCast S128x1 (subf (extractStridedSlice S128x1 ![0, q] (grab tab d) hq) ctr) shapeCasts_S128x1_S128x1

theorem inbounds (k : Fin 32) : ∀ a, ![0, (k : ℕ)] a + S128x1.size a ≤ S128x32.size a := by
  revert k; decide

/-- The store of step `k`. -/
def piece (q : ℕ) (hq : S128x3.Slices ![0, q] S128x1) (ctr : FVec F S128x1 .f32) (tab : FVec F S2048x3 .f32)
    (d : FVec F S128x2048 .f32) (k : Fin 32) : View.Piece (Elt F) S128x32 .f32 :=
  ⟨Rect.unit ![0, (k : ℕ)] S128x1.size (inbounds k), column q hq ctr tab (knocked d k)⟩

end Cert.Knn
-- ==== Proof.KTail.lean ====
module

public import proofs.«01_k».proof.Proof.KSteps

@[expose] public section

set_option maxRecDepth 16384

noncomputable section

namespace Cert.Knn

open Cert.KernelIdeal Cert.KernelIdeal.Gen Idealize.ShloMosaic Idealize.SL.Sem

variable {F : FTy → Type} [FloatOps F]

/-! # One block after the neighbour search

Each row of the block is one point. From the block's three tables of neighbour offsets `X`, `Y`, `Z` and the column `m`
of the thirty-third smallest squared distances: the weighted covariance, its eigenvectors by Jacobi rotations, the
reference axes, and the two coordinates that are stored. -/

/-- One number per row. -/
abbrev Col (F : FTy → Type) := FVec F S128x1 .f32

/-- Thirty-two numbers per row. -/
abbrev Tab (F : FTy → Type) := FVec F S128x32 .f32

/-- A 3×3 matrix per row. -/
structure Mat (F : FTy → Type) where
  a00 : Col F
  a01 : Col F
  a02 : Col F
  a10 : Col F
  a11 : Col F
  a12 : Col F
  a20 : Col F
  a21 : Col F
  a22 : Col F

/-- A constant column. -/
def colOf (w : BitVec 32) : Col F := broadcast S128x1 (Scalar.ofBits .f32 w)

/-- A constant table. -/
def tabOf (w : BitVec 32) : Tab F := broadcast S128x32 (Scalar.ofBits .f32 w)

/-- A column repeated along the rows. -/
def wide (x : Col F) : Tab F := broadcastTo S128x32 x broadcasts_S128x1_S128x32

/-- Each row's sum. -/
def total (x : Tab F) : Col F :=
  shapeCast S128x1 (multiReduction .add [1] S128 x 0x00000000#32 reduces_S128x32_S128 (.inl rfl) rfl) shapeCasts_S128_S128x1

/-- A table through the half-width type and back. -/
def rndT (x : Tab F) : Tab F := extf .f32 (truncf .bf16 x bitsLt_bf16_f32) bitsLt_bf16_f32

/-- A column through the half-width type and back. -/
def rndC (x : Col F) : Col F := extf .f32 (truncf .bf16 x bitsLt_bf16_f32) bitsLt_bf16_f32

/-- The distances of the neighbours. -/
def dist (X Y Z : Tab F) : Tab F :=
  sqrt (addf (addf (addf (mulf X X) (mulf Y Y)) (mulf Z Z)) (tabOf 0x2B8CBCCC#32))

/-- The weights: radius less distance. -/
def weight (m : Col F) (X Y Z : Tab F) : Tab F :=
  subf (wide (sqrt (addf m (colOf 0x2B8CBCCC#32)))) (dist X Y Z)

/-- The sum of the weights. -/
def mass (m : Col F) (X Y Z : Tab F) : Col F := addf (total (weight m X Y Z)) (colOf 0x2B8CBCCC#32)

/-- One weighted mean of products. -/
def mean (s : Col F) (w U V : Tab F) : Col F := divf (total (mulf (rndT (mulf w U)) (rndT V))) s

/-- The mean of the two mixed products. -/
def mixed (s : Col F) (w U V : Tab F) : Col F := mulf (colOf 0x3F000000#32) (addf (mean s w U V) (mean s w V U))

/-- The covariance. -/
def covar (m : Col F) (X Y Z : Tab F) : Mat F :=
  let w := weight m X Y Z
  let s := mass m X Y Z
  ⟨mean s w X X, mixed s w X Y, mixed s w X Z, mixed s w X Y, mean s w Y Y, mixed s w Y Z,
    mixed s w X Z, mixed s w Y Z, mean s w Z Z⟩

/-- The identity matrix. -/
def unitMat : Mat F :=
  let o := colOf 0x3F800000#32
  let z := colOf 0x00000000#32
  ⟨o, z, z, z, o, z, z, z, o⟩

/-- Whether an entry is zero already. -/
def skip (apq : Col F) : IVec S128x1 1 := cmpf .oeq (mulf (colOf 0x40000000#32) apq) (colOf 0x00000000#32)

/-- The tangent of the angle that makes an entry zero. -/
def tangent (app aqq apq : Col F) : Col F :=
  let tau := divf (subf aqq app) (select (skip apq) (colOf 0x3F800000#32) (mulf (colOf 0x40000000#32) apq))
  divf (select (cmpf .oge tau (colOf 0x00000000#32)) (colOf 0x3F800000#32) (colOf 0xBF800000#32))
    (addf (absf tau) (sqrt (addf (colOf 0x3F800000#32) (mulf tau tau))))

/-- Its cosine, before zero entries are left alone. -/
def cosRaw (app aqq apq : Col F) : Col F :=
  divf (colOf 0x3F800000#32)
    (sqrt (addf (colOf 0x3F800000#32) (mulf (tangent app aqq apq) (tangent app aqq apq))))

/-- The cosine used. -/
def cosine (app aqq apq : Col F) : Col F := select (skip apq) (colOf 0x3F800000#32) (cosRaw app aqq apq)

/-- The sine used. -/
def sine (app aqq apq : Col F) : Col F :=
  select (skip apq) (colOf 0x00000000#32) (mulf (tangent app aqq apq) (cosRaw app aqq apq))

/-- The entry that takes the part of index `p` in a turn. -/
def mixP (c s a b : Col F) : Col F := subf (mulf c a) (mulf s b)

/-- The entry that takes the part of index `q` in a turn. -/
def mixQ (c s a b : Col F) : Col F := addf (mulf s a) (mulf c b)

/-- Columns 0 and 2 turned. -/
def cols02 (c s : Col F) (A : Mat F) : Mat F :=
  ⟨mixP c s A.a00 A.a02, A.a01, mixQ c s A.a00 A.a02, mixP c s A.a10 A.a12, A.a11, mixQ c s A.a10 A.a12, mixP c s A.a20 A.a22, A.a21, mixQ c s A.a20 A.a22⟩

/-- Rows 0 and 2 turned. -/
def rows02 (c s : Col F) (A : Mat F) : Mat F :=
  ⟨mixP c s A.a00 A.a20, mixP c s A.a01 A.a21, mixP c s A.a02 A.a22, A.a10, A.a11, A.a12, mixQ c s A.a00 A.a20, mixQ c s A.a01 A.a21, mixQ c s A.a02 A.a22⟩

/-- The rotation that makes entry (0, 2) zero, of the matrix and of the vectors. -/
def rotate02 (S : Mat F × Mat F) : Mat F × Mat F :=
  let c := cosine S.1.a00 S.1.a22 S.1.a02
  let s := sine S.1.a00 S.1.a22 S.1.a02
  (rows02 c s (cols02 c s S.1), cols02 c s S.2)

/-- Columns 1 and 2 turned. -/
def cols12 (c s : Col F) (A : Mat F) : Mat F :=
  ⟨A.a00, mixP c s A.a01 A.a02, mixQ c s A.a01 A.a02, A.a10, mixP c s A.a11 A.a12, mixQ c s A.a11 A.a12, A.a20, mixP c s A.a21 A.a22, mixQ c s A.a21 A.a22⟩

/-- Rows 1 and 2 turned. -/
def rows12 (c s : Col F) (A : Mat F) : Mat F :=
  ⟨A.a00, A.a01, A.a02, mixP c s A.a10 A.a20, mixP c s A.a11 A.a21, mixP c s A.a12 A.a22, mixQ c s A.a10 A.a20, mixQ c s A.a11 A.a21, mixQ c s A.a12 A.a22⟩

/-- The rotation that makes entry (1, 2) zero, of the matrix and of the vectors. -/
def rotate12 (S : Mat F × Mat F) : Mat F × Mat F :=
  let c := cosine S.1.a11 S.1.a22 S.1.a12
  let s := sine S.1.a11 S.1.a22 S.1.a12
  (rows12 c s (cols12 c s S.1), cols12 c s S.2)

/-- Columns 0 and 1 turned. -/
def cols01 (c s : Col F) (A : Mat F) : Mat F :=
  ⟨mixP c s A.a00 A.a01, mixQ c s A.a00 A.a01, A.a02, mixP c s A.a10 A.a11, mixQ c s A.a10 A.a11, A.a12, mixP c s A.a20 A.a21, mixQ c s A.a20 A.a21, A.a22⟩

/-- Rows 0 and 1 turned. -/
def rows01 (c s : Col F) (A : Mat F) : Mat F :=
  ⟨mixP c s A.a00 A.a10, mixP c s A.a01 A.a11, mixP c s A.a02 A.a12, mixQ c s A.a00 A.a10, mixQ c s A.a01 A.a11, mixQ c s A.a02 A.a12, A.a20, A.a21, A.a22⟩

/-- The rotation that makes entry (0, 1) zero, of the matrix and of the vectors. -/
def rotate01 (S : Mat F × Mat F) : Mat F × Mat F :=
  let c := cosine S.1.a00 S.1.a11 S.1.a01
  let s := sine S.1.a00 S.1.a11 S.1.a01
  (rows01 c s (cols01 c s S.1), cols01 c s S.2)

/-- One sweep: the three rotations in order. -/
def sweep (S : Mat F × Mat F) : Mat F × Mat F := rotate01 (rotate12 (rotate02 S))

/-- The matrices after `n` sweeps. -/
def sweeps (S : Mat F × Mat F) : ℕ → Mat F × Mat F
  | 0 => S
  | n + 1 => sweep (sweeps S n)

/-- Three numbers per row. -/
structure Axis (F : FTy → Type) where
  x : Col F
  y : Col F
  z : Col F

/-- The eigenvector of the smallest eigenvalue. -/
def lowAxis (S : Mat F × Mat F) : Axis F :=
  let f := fun u v w => select (andi (cmpf .ole S.1.a00 S.1.a11) (cmpf .ole S.1.a00 S.1.a22)) u
    (select (cmpf .ole S.1.a11 S.1.a22) v w)
  ⟨f S.2.a00 S.2.a01 S.2.a02, f S.2.a10 S.2.a11 S.2.a12, f S.2.a20 S.2.a21 S.2.a22⟩

/-- The eigenvector of the largest eigenvalue. -/
def highAxis (S : Mat F × Mat F) : Axis F :=
  let f := fun u v w => select (andi (cmpf .oge S.1.a22 S.1.a00) (cmpf .oge S.1.a22 S.1.a11)) w
    (select (cmpf .oge S.1.a11 S.1.a00) v u)
  ⟨f S.2.a00 S.2.a01 S.2.a02, f S.2.a10 S.2.a11 S.2.a12, f S.2.a20 S.2.a21 S.2.a22⟩

/-- The neighbours' coordinates along an axis. -/
def along (X Y Z : Tab F) (ax : Axis F) : Tab F :=
  addf (addf (mulf (rndT X) (wide (rndC ax.x))) (mulf (rndT Y) (wide (rndC ax.y))))
    (mulf (rndT Z) (wide (rndC ax.z)))

/-- How many neighbours lie on an axis' positive side. -/
def count (X Y Z : Tab F) (ax : Axis F) : Col F :=
  total (select (cmpf .oge (along X Y Z ax) (tabOf 0x00000000#32)) (tabOf 0x3F800000#32) (tabOf 0x00000000#32))

/-- An axis turned to the side that holds most neighbours. -/
def orient (X Y Z : Tab F) (ax : Axis F) : Axis F :=
  let s := select (cmpf .oge (count X Y Z ax) (subf (colOf 0x42000000#32) (count X Y Z ax)))
    (colOf 0x3F800000#32) (colOf 0xBF800000#32)
  ⟨mulf ax.x s, mulf ax.y s, mulf ax.z s⟩

/-- The cross product. -/
def cross (u v : Axis F) : Axis F :=
  ⟨subf (mulf u.y v.z) (mulf u.z v.y), subf (mulf u.z v.x) (mulf u.x v.z), subf (mulf u.x v.y) (mulf u.y v.x)⟩

/-- The matrices the axes are read from. -/
def spectrum (m : Col F) (X Y Z : Tab F) : Mat F × Mat F := sweeps (covar m X Y Z, unitMat) 10

/-- The third axis. -/
def axisZ (m : Col F) (X Y Z : Tab F) : Axis F := orient X Y Z (lowAxis (spectrum m X Y Z))

/-- The first axis. -/
def axisX (m : Col F) (X Y Z : Tab F) : Axis F := orient X Y Z (highAxis (spectrum m X Y Z))

/-- The coordinates along the first axis. -/
def localX (m : Col F) (X Y Z : Tab F) : Tab F := along X Y Z (axisX m X Y Z)

/-- The coordinates along the second axis. -/
def localY (m : Col F) (X Y Z : Tab F) : Tab F := along X Y Z (cross (axisZ m X Y Z) (axisX m X Y Z))

/-- The factor that gives the planar coordinates the neighbour's distance. -/
def stretch (m : Col F) (X Y Z : Tab F) : Tab F :=
  divf (dist X Y Z) (sqrt (addf (addf (mulf (localX m X Y Z) (localX m X Y Z)) (mulf (localY m X Y Z) (localY m X Y Z)))
    (tabOf 0x2B8CBCCC#32)))

/-- What is stored of the first coordinate. -/
def outX (m : Col F) (X Y Z : Tab F) : Tab F := mulf (localX m X Y Z) (stretch m X Y Z)

/-- What is stored of the second coordinate. -/
def outY (m : Col F) (X Y Z : Tab F) : Tab F := mulf (localY m X Y Z) (stretch m X Y Z)

end Cert.Knn
-- ==== Proof.KStores.lean ====
module

public import proofs.«01_k».proof.Proof.KTail

@[expose] public section

set_option maxRecDepth 16384

noncomputable section

namespace Cert.Knn

open Cert.KernelIdeal Cert.KernelIdeal.Gen Idealize.ShloMosaic Idealize.SL.Sem
open Cert.KernelIdeal.Gen.kernelRun0_A

/-! # The stores of the body

The values the body stores are the named steps' and the named tail's. -/

variable {F : FTy → Type} [FloatOps F]
variable (c : Idealize.ShloMosaic.Dev nD) (arg2 : Memref sig .tc .vmem S1x128x3 .f32) (harg2 : arg2.IsWhole)
  (arg3 : Memref sig .tc .vmem S1x2048x3 .f32) (harg3 : arg3.IsWhole)
  (arg4 : Memref sig .tc .vmem S1x3x2048 .f32) (harg4 : arg4.IsWhole) (arg6 arg7 arg8 : Memref sig .tc .vmem S128x32 .f32)
  (x0 : Vec F S1x128x3 .f32) (x1 : Vec F S1x2048x3 .f32) (x2 : Vec F S1x3x2048 .f32)

/-- The squared distances of a block's points, before the search. -/
def base : FVec F S128x2048 .f32 :=
  k0_pay13 (sl.r_2 c arg2 harg2 x0) (sl.r_4 c arg4 harg4 x2) (sl.r_5 c arg2 harg2 x0) (sl.r_6 c arg4 harg4 x2)
    (sl.r_7 c arg2 harg2 arg4 harg4 x0 x2) (sl.r_8 c arg2 harg2 x0) (sl.r_9 c arg4 harg4 x2)

/-- The stores of the first coordinate, last first. -/
theorem storesX : sl.HS0_32 c arg2 harg2 arg3 harg3 arg4 harg4 x0 x1 x2
    = (List.finRange 32).reverse.map (piece 0 slices_S128x3_o0_0_S128x1 (sl.r c arg2 harg2 x0) (sl.r_3 c arg3 harg3 x1)
        (base c arg2 harg2 arg4 harg4 x0 x2)) := rfl

/-- The stores of the second coordinate. -/
theorem storesY : sl.HS1_32 c arg2 harg2 arg3 harg3 arg4 harg4 x0 x1 x2
    = (List.finRange 32).reverse.map (piece 1 slices_S128x3_o0_1_S128x1 (sl.r_1 c arg2 harg2 x0) (sl.r_3 c arg3 harg3 x1)
        (base c arg2 harg2 arg4 harg4 x0 x2)) := rfl

/-- The stores of the third coordinate. -/
theorem storesZ : sl.HS2_32 c arg2 harg2 arg3 harg3 arg4 harg4 x0 x1 x2
    = (List.finRange 32).reverse.map (piece 2 slices_S128x3_o0_2_S128x1 (sl.r_2 c arg2 harg2 x0) (sl.r_3 c arg3 harg3 x1)
        (base c arg2 harg2 arg4 harg4 x0 x2)) := rfl

/-- The minimum after the search. -/
theorem reach_eq : sl.r_64 c arg2 harg2 arg4 harg4 x0 x2 = low (knocked (base c arg2 harg2 arg4 harg4 x0 x2) 32) := rfl

/-- The table of the first offsets as it is loaded. -/
theorem loadX : sl.v1018 c arg2 harg2 arg3 harg3 arg4 harg4 arg6 x0 x1 x2
    = arg6.view.readCov (sl.HS0_32 c arg2 harg2 arg3 harg3 arg4 harg4 x0 x1 x2)
      (Rect.unit ![0, 0] S128x32.size (by decide)).toLoadRect := rfl

/-- The table of the second offsets. -/
theorem loadY : sl.v1019 c arg2 harg2 arg3 harg3 arg4 harg4 arg7 x0 x1 x2
    = arg7.view.readCov (sl.HS1_32 c arg2 harg2 arg3 harg3 arg4 harg4 x0 x1 x2)
      (Rect.unit ![0, 0] S128x32.size (by decide)).toLoadRect := rfl

/-- The table of the third offsets. -/
theorem loadZ : sl.v1020 c arg2 harg2 arg3 harg3 arg4 harg4 arg8 x0 x1 x2
    = arg8.view.readCov (sl.HS2_32 c arg2 harg2 arg3 harg3 arg4 harg4 x0 x1 x2)
      (Rect.unit ![0, 0] S128x32.size (by decide)).toLoadRect := rfl

set_option maxHeartbeats 8000000 in
/-- The two stores of the result: the second coordinate's, then the first's. -/
theorem stores (i : grid0.Coords) (arg5 : Memref sig .tc .vmem S1x2x128x32 .f32) (harg5 : arg5.IsWhole)
    (harg6 : arg6.IsWhole) (harg7 : arg7.IsWhole) (harg8 : arg8.IsWhole) :
    ∃ inb0 inb1, (kernelRun0_A c i arg2 harg2 arg3 harg3 arg4 harg4 arg5 harg5 arg6 harg6 arg7 harg7 arg8 harg8 x0 x1 x2).fst
    = [⟨Rect.unit ![0, 1, 0, 0] ![1, 1, 128, 32] inb1, shapeCast S1x1x128x32
        (outY (low (knocked (base c arg2 harg2 arg4 harg4 x0 x2) 32)) (sl.v1018 c arg2 harg2 arg3 harg3 arg4 harg4 arg6 x0 x1 x2)
          (sl.v1019 c arg2 harg2 arg3 harg3 arg4 harg4 arg7 x0 x1 x2) (sl.v1020 c arg2 harg2 arg3 harg3 arg4 harg4 arg8 x0 x1 x2))
        shapeCasts_S128x32_S1x1x128x32⟩,
      ⟨Rect.unit ![0, 0, 0, 0] ![1, 1, 128, 32] inb0, shapeCast S1x1x128x32
        (outX (low (knocked (base c arg2 harg2 arg4 harg4 x0 x2) 32)) (sl.v1018 c arg2 harg2 arg3 harg3 arg4 harg4 arg6 x0 x1 x2)
          (sl.v1019 c arg2 harg2 arg3 harg3 arg4 harg4 arg7 x0 x1 x2) (sl.v1020 c arg2 harg2 arg3 harg3 arg4 harg4 arg8 x0 x1 x2))
        shapeCasts_S128x32_S1x1x128x32⟩] := ⟨by decide, by decide, rfl⟩

end Cert.Knn
-- ==== Proof.Rank.lean ====
module

public import Idealize.ShloMosaic.Lib.SortFacts
public import Idealize.ShloMosaic.PureOps.Ideal

@[expose] public section

noncomputable section

namespace Cert.Knn

open Idealize.ShloMosaic

variable {n : ℕ}

/-! # Places in sorted order

The place of an element of a list of values: how many come before it, smaller values first and equal values in the
order of the list. A stable sort puts at place `k` the element of rank `k`, and so does taking minima one after another. -/

/-- `i` comes before `j`: its value is smaller, or equal and it stands earlier. -/
def Ahead (d : Fin n → EReal) (i j : Fin n) : Prop := d i < d j ∨ (d i = d j ∧ i < j)

theorem Ahead.trans {d : Fin n → EReal} {i j k : Fin n} (h : Ahead d i j) (h' : Ahead d j k) : Ahead d i k := by
  rcases h with h | ⟨h, a⟩ <;> rcases h' with h' | ⟨h', a'⟩
  · exact .inl (h.trans h')
  · exact .inl (h' ▸ h)
  · exact .inl (h ▸ h')
  · exact .inr ⟨h.trans h', a.trans a'⟩

theorem Ahead.irrefl (d : Fin n → EReal) (i : Fin n) : ¬ Ahead d i i := by
  rintro (h | ⟨_, h⟩) <;> exact lt_irrefl _ h

theorem ahead_total (d : Fin n → EReal) {i j : Fin n} (h : i ≠ j) : Ahead d i j ∨ Ahead d j i := by
  rcases lt_trichotomy (d i) (d j) with a | a | a
  · exact .inl (.inl a)
  · rcases lt_or_gt_of_ne h with b | b
    · exact .inl (.inr ⟨a, b⟩)
    · exact .inr (.inr ⟨a.symm, b⟩)
  · exact .inr (.inl a)

open Classical in
/-- How many elements come before `j`. -/
def rank (d : Fin n → EReal) (j : Fin n) : ℕ := (Finset.univ.filter fun i => Ahead d i j).card

theorem rank_lt_of_ahead {d : Fin n → EReal} {i j : Fin n} (h : Ahead d i j) : rank d i < rank d j := by
  classical
  refine Finset.card_lt_card ⟨fun x hx => ?_, fun hs => ?_⟩
  · have hx' : Ahead d x i := by simpa using hx
    simpa using hx'.trans h
  · have : i ∈ Finset.univ.filter fun x => Ahead d x i := hs (by simpa using h)
    exact Ahead.irrefl d i (by simpa using this)

theorem ahead_iff_rank_lt {d : Fin n → EReal} {i j : Fin n} : Ahead d i j ↔ rank d i < rank d j := by
  refine ⟨rank_lt_of_ahead, fun h => ?_⟩
  rcases eq_or_ne i j with rfl | hne
  · exact absurd h (lt_irrefl _)
  · exact (ahead_total d hne).resolve_right fun h' => absurd (rank_lt_of_ahead h') (by omega)

theorem rank_inj {d : Fin n → EReal} {i j : Fin n} (h : rank d i = rank d j) : i = j := by
  by_contra hne
  rcases ahead_total d hne with a | a <;> have := rank_lt_of_ahead a <;> omega

/-- Inserting an element that stands before all of a list in order leaves it in order. -/
theorem pairwise_insert (d : Fin n → EReal) (R : Fin n → Fin n → Bool) (hR : ∀ i j, R i j = true ↔ d i < d j)
    (a : Fin n) (l : List (Fin n)) (hl : l.Pairwise (Ahead d)) (ha : ∀ b ∈ l, a < b) :
    (insertBefore R a l).Pairwise (Ahead d) := by
  induction l with
  | nil => exact List.pairwise_singleton _ _
  | cons b l ih =>
    rw [List.pairwise_cons] at hl
    unfold insertBefore
    by_cases h : R b a = true
    · rw [if_pos h, List.pairwise_cons]
      refine ⟨fun x hx => ?_, ih hl.2 fun c hc => ha c (List.mem_cons_of_mem _ hc)⟩
      rcases List.mem_cons.mp ((perm_insertBefore R a l).mem_iff.mp hx) with rfl | hx
      · exact .inl ((hR _ _).mp h)
      · exact hl.1 x hx
    · rw [if_neg h, List.pairwise_cons, List.pairwise_cons]
      have hab : Ahead d a b := by
        have hle : d a ≤ d b := not_lt.mp fun h' => h ((hR _ _).mpr h')
        rcases hle.lt_or_eq with h' | h'
        · exact .inl h'
        · exact .inr ⟨h', ha b List.mem_cons_self⟩
      refine ⟨fun x hx => ?_, hl⟩
      rcases List.mem_cons.mp hx with rfl | hx
      · exact hab
      · exact hab.trans (hl.1 x hx)

theorem pairwise_sorted (d : Fin n → EReal) (R : Fin n → Fin n → Bool) (hR : ∀ i j, R i j = true ↔ d i < d j)
    (l : List (Fin n)) (hl : l.Pairwise (· < ·)) : (stableSort R l).Pairwise (Ahead d) := by
  induction l with
  | nil => exact List.Pairwise.nil
  | cons a l ih =>
    rw [List.pairwise_cons] at hl
    unfold stableSort
    exact pairwise_insert d R hR a _ (ih hl.2) fun b hb => hl.1 b ((perm_stableSort R l).mem_iff.mp hb)

/-- The stable sort's order is strictly increasing. -/
theorem sortedFrom_ahead (d : Fin n → EReal) (R : Fin n → Fin n → Bool) (hR : ∀ i j, R i j = true ↔ d i < d j)
    {k l : Fin n} (h : k < l) : Ahead d (sortedFrom R k) (sortedFrom R l) :=
  List.pairwise_iff_get.mp (pairwise_sorted d R hR (List.finRange n) (List.pairwise_lt_finRange n)) _ _ h

/-- The stable sort puts at place `k` the element of rank `k`. -/
theorem rank_sortedFrom (d : Fin n → EReal) (R : Fin n → Fin n → Bool) (hR : ∀ i j, R i j = true ↔ d i < d j)
    (k : Fin n) : rank d (sortedFrom R k) = k := by
  classical
  have hset : (Finset.univ.filter fun i => Ahead d i (sortedFrom R k)) = (Finset.Iio k).image (sortedFrom R) := by
    ext i
    obtain ⟨l, rfl⟩ := sortedFrom_surjective R i
    simp only [Finset.mem_filter, Finset.mem_univ, true_and, Finset.mem_image, Finset.mem_Iio]
    constructor
    · intro h
      refine ⟨l, ?_, rfl⟩
      by_contra hn
      rcases (not_lt.mp hn).lt_or_eq with h' | h'
      · exact Ahead.irrefl d _ (h.trans (sortedFrom_ahead d R hR h'))
      · exact Ahead.irrefl d _ (h' ▸ h)
    · rintro ⟨x, hx, hxl⟩
      exact hxl ▸ sortedFrom_ahead d R hR hx
  rw [rank, hset, Finset.card_image_of_injective _ (sortedFrom_injective R), Fin.card_Iio]

/-- The element at place `k`. -/
def place (d : Fin n → EReal) (k : Fin n) : Fin n := sortedFrom (fun i j => decide (d i < d j)) k

theorem rank_place (d : Fin n → EReal) (k : Fin n) : rank d (place d k) = k :=
  rank_sortedFrom d _ (fun _ _ => by simp) k

theorem eq_place {d : Fin n → EReal} {x k : Fin n} (h : rank d x = k) : x = place d k :=
  rank_inj (h.trans (rank_place d k).symm)

/-- Sorting by any comparison that says which value is smaller gives the places. -/
theorem sortedFrom_eq_place (d : Fin n → EReal) (R : Fin n → Fin n → Bool) (hR : ∀ i j, R i j = true ↔ d i < d j)
    (k : Fin n) : sortedFrom R k = place d k := eq_place (rank_sortedFrom d R hR k)

/-- Places depend only on which values are smaller. -/
theorem place_congr {d e : Fin n → EReal} (h : ∀ i j, d i < d j ↔ e i < e j) (k : Fin n) : place d k = place e k :=
  sortedFrom_eq_place e _ (fun i j => by simp [h]) k

/-! ## Minima one after another -/

/-- `x` is the first place of the smallest value. -/
def IsFirstMin (v : Fin n → EReal) (x : Fin n) : Prop := (∀ y, v x ≤ v y) ∧ ∀ y, v y = v x → x ≤ y

/-- The values with the first `k` places raised to plus infinity. -/
def raised (d : Fin n → EReal) (k : ℕ) (j : Fin n) : EReal := if rank d j < k then ⊤ else d j

/-- The first smallest value that is left stands at place `k`. -/
theorem isFirstMin_raised {d : Fin n → EReal} (hd : ∀ i, d i < ⊤) {k : Fin n} {x : Fin n}
    (h : IsFirstMin (raised d k) x) : x = place d k := by
  have hp : rank d (place d k) = k := rank_place d k
  have hvp : raised d k (place d k) = d (place d k) := if_neg (by omega)
  have hx : ¬ rank d x < k := fun hlt => by
    have h1 := h.1 (place d k)
    rw [hvp, raised, if_pos hlt] at h1
    exact absurd (hd (place d k)) (not_lt.mpr h1)
  have hvx : raised d k x = d x := if_neg hx
  by_contra hne
  have hlt : (k : ℕ) < rank d x :=
    lt_of_le_of_ne (not_lt.mp hx) fun e => hne (eq_place e.symm)
  have ha : Ahead d (place d k) x := ahead_iff_rank_lt.mpr (by omega)
  have h1 := h.1 (place d k)
  rw [hvp, hvx] at h1
  rcases ha with ha | ⟨ha, hb⟩
  · exact absurd ha (not_lt.mpr h1)
  · exact absurd hb (not_lt.mpr (h.2 _ (by rw [hvp, hvx, ha])))

/-- The smallest value that is left is the one at place `k`. -/
theorem raised_place (d : Fin n → EReal) (k : Fin n) : raised d k (place d k) = d (place d k) :=
  if_neg (by rw [rank_place]; omega)

/-- Raising the element at place `k` as well. -/
theorem raised_succ (d : Fin n → EReal) (k : Fin n) (j : Fin n) :
    (if j = place d k then ⊤ else raised d k j) = raised d (k + 1) j := by
  unfold raised
  by_cases h : j = place d k
  · rw [if_pos h, if_pos (by rw [h, rank_place]; omega)]
  · have : rank d j ≠ k := fun e => h (eq_place e)
    rw [if_neg h]
    by_cases h' : rank d j < k
    · rw [if_pos h', if_pos (by omega)]
    · rw [if_neg h', if_neg (by omega)]

end Cert.Knn

end
-- ==== Proof.Point.lean ====
module

public import proofs.«01_k».proof.Proof.Rank
public import Idealize.ShloMosaic.PureOps.Ideal.Laws
public import Idealize.ShloMosaic.Lib.IdealHost

@[expose] public section

noncomputable section

namespace Cert.Knn.Point

open Idealize.ShloMosaic

/-! # One point

What both programs compute for one point of a cloud, over the extended reals. -/

/-- The guard against a vanishing length. -/
def eps : EReal := Ideal.ofBits .f32 0x2B8CBCCC#32

/-- The number two. -/
def two : EReal := Ideal.ofBits .f32 0x40000000#32

/-- Minus one. -/
def minusOne : EReal := Ideal.ofBits .f32 0xBF800000#32

/-- The inner product of two triples. -/
def inner (u v : Fin 3 → EReal) : EReal := u 0 * v 0 + u 1 * v 1 + u 2 * v 2

/-- The squared distances from point `p` to the points of the cloud. -/
def gap {n : ℕ} (x : Fin n → Fin 3 → EReal) (p j : Fin n) : EReal :=
  max (inner (x p) (x p) - two * inner (x p) (x j) + inner (x j) (x j)) 0

/-- The offset of the neighbour at place `k`. -/
def offset (x : Fin 2048 → Fin 3 → EReal) (p : Fin 2048) (k : Fin 32) (q : Fin 3) : EReal :=
  x (place (gap x p) ⟨k, by omega⟩) q - x p q

/-- The squared distance of the point at place 32. -/
def reach (x : Fin 2048 → Fin 3 → EReal) (p : Fin 2048) : EReal := gap x p (place (gap x p) 32)

/-! ## The covariance -/

section
variable (m : EReal) (U : Fin 32 → Fin 3 → EReal)

/-- The neighbours' distances. -/
def dist (k : Fin 32) : EReal := Ideal.sqrt (inner (U k) (U k) + eps)

/-- The weights. -/
def weight (k : Fin 32) : EReal := Ideal.sqrt (m + eps) - dist U k

/-- The weighted covariance. -/
def covar (i j : Fin 3) : EReal :=
  Ideal.div (∑ k, weight m U k * U k i * U k j) (∑ k, weight m U k + eps)

theorem covar_comm (i j : Fin 3) : covar m U i j = covar m U j i := by
  unfold covar
  congr 1
  exact Finset.sum_congr rfl fun k _ => by rw [mul_assoc, mul_assoc, mul_comm (U k i)]

end

/-! ## Rotations -/

/-- A 3×3 matrix. -/
abbrev M3 := Fin 3 → Fin 3 → EReal

/-- The unit matrix. -/
def unit : M3 := fun i j => if i = j then 1 else 0

/-- The cotangent of the double angle that makes the entry `apq` zero. -/
def cot (app aqq apq : EReal) : EReal := Ideal.div (aqq - app) (if two * apq = 0 then 1 else two * apq)

/-- The tangent of the angle. -/
def tangent (app aqq apq : EReal) : EReal :=
  Ideal.div (if 0 ≤ cot app aqq apq then 1 else minusOne)
    (FloatOps.absf (F := Ideal) (φ := .f32) (cot app aqq apq)
      + Ideal.sqrt (1 + cot app aqq apq * cot app aqq apq))

/-- The cosine of the angle. -/
def cosRaw (app aqq apq : EReal) : EReal :=
  Ideal.div 1 (Ideal.sqrt (1 + tangent app aqq apq * tangent app aqq apq))

/-- The cosine used. -/
def cosine (app aqq apq : EReal) : EReal := if two * apq = 0 then 1 else cosRaw app aqq apq

/-- The sine used. -/
def sine (app aqq apq : EReal) : EReal :=
  if two * apq = 0 then 0 else tangent app aqq apq * cosRaw app aqq apq

/-- The plane rotation of the indices `p` and `q`. -/
def turn (p q : Fin 3) (A : M3) : M3 := fun i j =>
  if i = p ∧ j = p ∨ i = q ∧ j = q then cosine (A p p) (A q q) (A p q)
  else if i = p ∧ j = q then sine (A p p) (A q q) (A p q)
  else if i = q ∧ j = p then -sine (A p p) (A q q) (A p q)
  else if i = j then 1 else 0

/-- The product of two matrices. -/
def mul (A B : M3) : M3 := fun i j => ∑ a, A i a * B a j

/-- One rotation, of the matrix and of the vectors. -/
def rotate (p q : Fin 3) (S : M3 × M3) : M3 × M3 :=
  (mul (fun i j => turn p q S.1 j i) (mul S.1 (turn p q S.1)), mul S.2 (turn p q S.1))

/-- One sweep. -/
def sweep (S : M3 × M3) : M3 × M3 := rotate 0 1 (rotate 1 2 (rotate 0 2 S))

/-- The matrices after `n` sweeps. -/
def sweeps (S : M3 × M3) : ℕ → M3 × M3
  | 0 => S
  | n + 1 => sweep (sweeps S n)

/-! ## The axes and the coordinates -/

/-- The eigenvector at place `k` of the eigenvalues' order. -/
def vector (S : M3 × M3) (k i : Fin 3) : EReal := S.2 i (place (fun j => S.1 j j) k)

open Classical in
/-- How many neighbours lie on an axis' positive side. -/
def count (U : Fin 32 → Fin 3 → EReal) (a : Fin 3 → EReal) : ℕ :=
  (Finset.univ.filter fun k => 0 ≤ inner (U k) a).card

/-- An axis turned to the side that holds most neighbours. -/
def orient (U : Fin 32 → Fin 3 → EReal) (a : Fin 3 → EReal) (i : Fin 3) : EReal :=
  a i * if 32 ≤ 2 * count U a then 1 else minusOne

/-- The cross product. -/
def cross (u v : Fin 3 → EReal) : Fin 3 → EReal :=
  ![u 1 * v 2 - u 2 * v 1, u 2 * v 0 - u 0 * v 2, u 0 * v 1 - u 1 * v 0]

/-- The coordinates of neighbour `k` in the plane. -/
def flat (X Y : Fin 3 → EReal) (U : Fin 32 → Fin 3 → EReal) (a : Fin 2) (k : Fin 32) : EReal :=
  if a = 0 then inner (U k) X else inner (U k) Y

/-- The planar coordinates, given the neighbour's distance. -/
def spread (X Y : Fin 3 → EReal) (U : Fin 32 → Fin 3 → EReal) (a : Fin 2) (k : Fin 32) : EReal :=
  flat X Y U a k * Ideal.div (dist U k)
    (Ideal.sqrt (flat X Y U 0 k * flat X Y U 0 k + flat X Y U 1 k * flat X Y U 1 k + eps))

/-- The result from the matrices after the sweeps. -/
def finish (S : M3 × M3) (U : Fin 32 → Fin 3 → EReal) (a : Fin 2) (k : Fin 32) : EReal :=
  spread (orient U (vector S 2)) (cross (orient U (vector S 0)) (orient U (vector S 2))) U a k

/-- The result for point `p`: coordinate `a` of the neighbour at place `k`. -/
def result (x : Fin 2048 → Fin 3 → EReal) (p : Fin 2048) (a : Fin 2) (k : Fin 32) : EReal :=
  finish (sweeps (covar (reach x p) (offset x p), unit) 10) (offset x p) a k

/-! ## Facts -/

/-- Half of a number's double is the number. -/
theorem half_double (a : EReal) : Ideal.ofBits .f32 0x3F000000#32 * (a + a) = a := by
  have h : Ideal.ofBits .f32 0x3F000000#32 = (((1 / 2 : ℝ)) : EReal) := by
    simp [Ideal.ofBits, Ideal.ieee, -EReal.coe_mul]; norm_num
  rw [h]
  induction a using EReal.rec with
  | bot => rw [EReal.bot_add, EReal.coe_mul_bot_of_pos (by norm_num)]
  | top => rw [EReal.top_add_top, EReal.coe_mul_top_of_pos (by norm_num)]
  | coe a => rw [← EReal.coe_add, ← EReal.coe_mul]; congr 1; ring

theorem thirtyTwo : Ideal.ofBits .f32 0x42000000#32 = ((32 : ℝ) : EReal) := by
  simp [Ideal.ofBits, Ideal.ieee, -EReal.coe_mul]; norm_num

theorem infinity : Ideal.ofBits .f32 0x7F800000#32 = ⊤ := by
  simp [Ideal.ofBits, Ideal.ieee]

open Classical in
/-- The number of neighbours as a sum of ones and zeros, compared with what is left of thirty-two. -/
theorem most_iff (P : Fin 32 → Prop) [DecidablePred P] :
    ((32 : ℝ) : EReal) - (∑ k, if P k then (1 : EReal) else 0) ≤ ∑ k, (if P k then (1 : EReal) else 0)
      ↔ 32 ≤ 2 * (Finset.univ.filter P).card := by
  have h : (∑ k, if P k then (1 : EReal) else 0) = ((((Finset.univ.filter P).card : ℕ) : ℝ) : EReal) := by
    rw [Finset.sum_boole]; norm_cast
  rw [h, ← EReal.coe_sub, EReal.coe_le_coe_iff]
  constructor
  · intro h
    have : (32 : ℝ) ≤ ((2 * (Finset.univ.filter P).card : ℕ) : ℝ) := by push_cast; linarith
    exact_mod_cast this
  · intro h
    have : (32 : ℝ) ≤ ((2 * (Finset.univ.filter P).card : ℕ) : ℝ) := by exact_mod_cast h
    push_cast at this; linarith

theorem ahead_of_le {d : Fin 3 → EReal} {i j : Fin 3} (h : d i ≤ d j) (hij : i < j) : Ahead d i j := by
  rcases h.lt_or_eq with h | h
  · exact .inl h
  · exact .inr ⟨h, hij⟩

theorem not_ahead_of_le {d : Fin 3 → EReal} {i j : Fin 3} (h : d j ≤ d i) (hij : j < i) : ¬ Ahead d i j := by
  rintro (h' | ⟨_, h'⟩)
  · exact absurd h' (not_lt.mpr h)
  · exact absurd hij (not_lt.mpr h'.le)

theorem not_ahead_of_lt {d : Fin 3 → EReal} {i j : Fin 3} (h : d j < d i) : ¬ Ahead d i j := by
  rintro (h' | ⟨h', _⟩)
  · exact lt_asymm h h'
  · exact h.ne h'.symm

open Classical in
theorem rank_three (d : Fin 3 → EReal) (x : Fin 3) :
    rank d x = (if Ahead d 0 x then 1 else 0) + (if Ahead d 1 x then 1 else 0) + (if Ahead d 2 x then 1 else 0) := by
  rw [rank, Finset.card_filter, Fin.sum_univ_three]

/-- The place of the smallest of three values. -/
theorem place_three_first (d : Fin 3 → EReal) :
    place d 0 = if d 0 ≤ d 1 ∧ d 0 ≤ d 2 then 0 else if d 1 ≤ d 2 then 1 else 2 := by
  symm
  apply eq_place
  split_ifs with h h' <;> rw [rank_three]
  · rw [if_neg (Ahead.irrefl d 0), if_neg (not_ahead_of_le h.1 (by decide)), if_neg (not_ahead_of_le h.2 (by decide))]
    rfl
  · have : d 1 < d 0 := lt_of_not_ge fun h1 => h ⟨h1, h1.trans h'⟩
    rw [if_neg (not_ahead_of_lt this), if_neg (Ahead.irrefl d 1), if_neg (not_ahead_of_le h' (by decide))]
    rfl
  · have h2 : d 2 < d 1 := lt_of_not_ge h'
    have : d 2 < d 0 := lt_of_not_ge fun h1 => h ⟨h1.trans h2.le, h1⟩
    rw [if_neg (not_ahead_of_lt this), if_neg (not_ahead_of_lt h2), if_neg (Ahead.irrefl d 2)]
    rfl

/-- The place of the largest of three values. -/
theorem place_three_last (d : Fin 3 → EReal) :
    place d 2 = if d 0 ≤ d 2 ∧ d 1 ≤ d 2 then 2 else if d 0 ≤ d 1 then 1 else 0 := by
  symm
  apply eq_place
  split_ifs with h h' <;> rw [rank_three]
  · rw [if_pos (ahead_of_le h.1 (by decide)), if_pos (ahead_of_le h.2 (by decide)), if_neg (Ahead.irrefl d 2)]
    rfl
  · have : d 2 < d 1 := lt_of_not_ge fun h1 => h ⟨h'.trans h1, h1⟩
    rw [if_pos (ahead_of_le h' (by decide)), if_neg (Ahead.irrefl d 1), if_pos (.inl this)]
    rfl
  · have h2 : d 1 < d 0 := lt_of_not_ge h'
    have : d 2 < d 0 := lt_of_not_ge fun h1 => h ⟨h1, h2.le.trans h1⟩
    rw [if_neg (Ahead.irrefl d 0), if_pos (.inl h2), if_pos (.inl this)]
    rfl

/-- A rotation's effect on one line of a matrix. -/
theorem mul_turn (p q : Fin 3) (h : p ≠ q) (A B : M3) (i j : Fin 3) :
    mul B (turn p q A) i j =
      if j = p then cosine (A p p) (A q q) (A p q) * B i p - sine (A p p) (A q q) (A p q) * B i q
      else if j = q then sine (A p p) (A q q) (A p q) * B i p + cosine (A p p) (A q q) (A p q) * B i q
      else B i j := by
  unfold mul
  rw [Fin.sum_univ_three]
  generalize hc : cosine (A p p) (A q q) (A p q) = c
  generalize hs : sine (A p p) (A q q) (A p q) = s
  have ht : turn p q A = fun i j => if i = p ∧ j = p ∨ i = q ∧ j = q then c
      else if i = p ∧ j = q then s else if i = q ∧ j = p then -s else if i = j then 1 else 0 := by
    funext i j; unfold turn; rw [hc, hs]
  rw [ht]
  fin_cases p <;> fin_cases q <;> first | exact absurd rfl h | skip
  all_goals fin_cases j <;> simp [mul_comm, sub_eq_add_neg]
  all_goals exact add_comm _ _

theorem turn_mul (p q : Fin 3) (h : p ≠ q) (A B : M3) (i j : Fin 3) :
    mul (fun i j => turn p q A j i) B i j =
      if i = p then cosine (A p p) (A q q) (A p q) * B p j - sine (A p p) (A q q) (A p q) * B q j
      else if i = q then sine (A p p) (A q q) (A p q) * B p j + cosine (A p p) (A q q) (A p q) * B q j
      else B i j := by
  have : mul (fun i j => turn p q A j i) B i j = mul (fun i j => B j i) (turn p q A) j i :=
    Finset.sum_congr rfl fun k _ => mul_comm _ _
  rw [this, mul_turn p q h]

end Cert.Knn.Point
-- ==== Proof.KRow.lean ====
module

public import proofs.«01_k».proof.Proof.KTail
public import proofs.«01_k».proof.Proof.Point
public import Idealize.ShloMosaic.Lib.Pointwise

@[expose] public section

set_option maxRecDepth 16384

noncomputable section

namespace Cert.Knn

open Cert.KernelIdeal Cert.KernelIdeal.Gen Idealize.ShloMosaic Idealize.SL.Sem

/-! # One row of the block after the neighbour search

At the extended reals each row of the block's tail is the computation of one point. -/

/-- Row `r` of a matrix. -/
def Mat.at (A : Mat Ideal) (r : Fin 128) : Point.M3 :=
  ![![A.a00 (ix2 r 0), A.a01 (ix2 r 0), A.a02 (ix2 r 0)], ![A.a10 (ix2 r 0), A.a11 (ix2 r 0), A.a12 (ix2 r 0)],
    ![A.a20 (ix2 r 0), A.a21 (ix2 r 0), A.a22 (ix2 r 0)]]

/-- Row `r` of a matrix and its vectors. -/
def rowOf (S : Mat Ideal × Mat Ideal) (r : Fin 128) : Point.M3 × Point.M3 := (S.1.at r, S.2.at r)

/-- Row `r` of an axis. -/
def Axis.at (a : Axis Ideal) (r : Fin 128) : Fin 3 → EReal := ![a.x (ix2 r 0), a.y (ix2 r 0), a.z (ix2 r 0)]

/-- Row `r` of the three tables of offsets. -/
def offs (X Y Z : Tab Ideal) (r : Fin 128) (k : Fin 32) : Fin 3 → EReal := ![X (ix2 r k), Y (ix2 r k), Z (ix2 r k)]

section
variable (app aqq apq : Col Ideal) (r : Fin 128)

theorem tangent_at : tangent app aqq apq (ix2 r 0)
    = Point.tangent (app (ix2 r 0)) (aqq (ix2 r 0)) (apq (ix2 r 0)) := by
  pointwise [tangent, skip, colOf, Point.tangent, Point.cot, Point.two, Point.minusOne]

theorem cosRaw_at : cosRaw app aqq apq (ix2 r 0)
    = Point.cosRaw (app (ix2 r 0)) (aqq (ix2 r 0)) (apq (ix2 r 0)) := by
  pointwise [cosRaw, colOf, Point.cosRaw, tangent_at]

theorem cosine_at : cosine app aqq apq (ix2 r 0)
    = Point.cosine (app (ix2 r 0)) (aqq (ix2 r 0)) (apq (ix2 r 0)) := by
  pointwise [cosine, skip, colOf, Point.cosine, Point.two, cosRaw_at]

theorem sine_at : sine app aqq apq (ix2 r 0)
    = Point.sine (app (ix2 r 0)) (aqq (ix2 r 0)) (apq (ix2 r 0)) := by
  pointwise [sine, skip, colOf, Point.sine, Point.two, cosRaw_at, tangent_at]

end

theorem mixP_at (c s a b : Col Ideal) (r : Fin 128) :
    mixP c s a b (ix2 r 0) = c (ix2 r 0) * a (ix2 r 0) - s (ix2 r 0) * b (ix2 r 0) := by
  pointwise [mixP]

theorem mixQ_at (c s a b : Col Ideal) (r : Fin 128) :
    mixQ c s a b (ix2 r 0) = s (ix2 r 0) * a (ix2 r 0) + c (ix2 r 0) * b (ix2 r 0) := by
  pointwise [mixQ]

theorem rotate02_at (S : Mat Ideal × Mat Ideal) (r : Fin 128) :
    rowOf (rotate02 S) r = Point.rotate 0 2 (rowOf S r) := by
  refine Prod.ext ?_ ?_ <;> funext i j <;> simp only [Point.rotate, Point.turn_mul _ _ (show (0 : Fin 3) ≠ 2 by decide), Point.mul_turn _ _ (show (0 : Fin 3) ≠ 2 by decide)]
  all_goals fin_cases i <;> fin_cases j <;>
    simp [rowOf, Mat.at, rotate02, rows02, cols02, mixP_at, mixQ_at, cosine_at, sine_at]

theorem rotate12_at (S : Mat Ideal × Mat Ideal) (r : Fin 128) :
    rowOf (rotate12 S) r = Point.rotate 1 2 (rowOf S r) := by
  refine Prod.ext ?_ ?_ <;> funext i j <;> simp only [Point.rotate, Point.turn_mul _ _ (show (1 : Fin 3) ≠ 2 by decide), Point.mul_turn _ _ (show (1 : Fin 3) ≠ 2 by decide)]
  all_goals fin_cases i <;> fin_cases j <;>
    simp [rowOf, Mat.at, rotate12, rows12, cols12, mixP_at, mixQ_at, cosine_at, sine_at]

theorem rotate01_at (S : Mat Ideal × Mat Ideal) (r : Fin 128) :
    rowOf (rotate01 S) r = Point.rotate 0 1 (rowOf S r) := by
  refine Prod.ext ?_ ?_ <;> funext i j <;> simp only [Point.rotate, Point.turn_mul _ _ (show (0 : Fin 3) ≠ 1 by decide), Point.mul_turn _ _ (show (0 : Fin 3) ≠ 1 by decide)]
  all_goals fin_cases i <;> fin_cases j <;>
    simp [rowOf, Mat.at, rotate01, rows01, cols01, mixP_at, mixQ_at, cosine_at, sine_at]

/-- The sweeps of one row. -/
theorem sweeps_at (S : Mat Ideal × Mat Ideal) (r : Fin 128) (n : ℕ) :
    rowOf (sweeps S n) r = Point.sweeps (rowOf S r) n := by
  induction n with
  | zero => rfl
  | succ n ih => simp only [sweeps, sweep, Point.sweeps, Point.sweep, rotate01_at, rotate12_at, rotate02_at, ih]

section
variable (m : Col Ideal) (X Y Z : Tab Ideal) (r : Fin 128) (k : Fin 32)

theorem dist_at : dist X Y Z (ix2 r k) = Point.dist (offs X Y Z r) k := by
  pointwise [dist, tabOf, Point.dist, Point.inner, offs, Point.eps]

theorem weight_at : weight m X Y Z (ix2 r k) = Point.weight (m (ix2 r 0)) (offs X Y Z r) k := by
  pointwise [weight, wide, colOf, Point.weight, dist_at, Point.eps]

theorem mass_at : mass m X Y Z (ix2 r 0) = ∑ k, Point.weight (m (ix2 r 0)) (offs X Y Z r) k + Point.eps := by
  pointwise [mass, total, colOf, weight_at, Point.eps]

theorem mean_at (s : Col Ideal) (w U V : Tab Ideal) : mean s w U V (ix2 r 0)
    = Ideal.div (∑ x, w (ix2 r x) * U (ix2 r x) * V (ix2 r x)) (s (ix2 r 0)) := by
  pointwise [mean, total, rndT]

theorem mixed_at (s : Col Ideal) (w U V : Tab Ideal) : mixed s w U V (ix2 r 0)
    = Ideal.div (∑ x, w (ix2 r x) * U (ix2 r x) * V (ix2 r x)) (s (ix2 r 0)) := by
  have h : mixed s w U V (ix2 r 0)
      = Ideal.ofBits FTy.f32 1056964608#32 * (mean s w U V (ix2 r 0) + mean s w V U (ix2 r 0)) := by
    pointwise [mixed, colOf]
  have hc : mean s w V U (ix2 r 0) = mean s w U V (ix2 r 0) := by
    rw [mean_at, mean_at]
    congr 1
    exact Finset.sum_congr rfl fun x _ => by rw [mul_assoc, mul_assoc, mul_comm (V _)]
  rw [h, hc, Point.half_double, mean_at]

/-- The covariance of one row. -/
theorem covar_at : (covar m X Y Z).at r = Point.covar (m (ix2 r 0)) (offs X Y Z r) := by
  funext i j
  fin_cases i <;> fin_cases j <;>
    simp [Mat.at, covar, mixed_at, mean_at, weight_at, mass_at, Point.covar, offs]
  all_goals
    congr 1
    exact Finset.sum_congr rfl fun k _ => mul_right_comm _ _ _

theorem unitMat_at : (unitMat : Mat Ideal).at r = Point.unit := by
  funext i j
  have h1 : colOf (F := Ideal) 0x3F800000#32 (ix2 r 0) = (1 : EReal) := by pointwise [colOf]
  have h0 : colOf (F := Ideal) 0x00000000#32 (ix2 r 0) = (0 : EReal) := by pointwise [colOf]
  fin_cases i <;> fin_cases j <;> simp [Mat.at, unitMat, Point.unit, h0, h1]

theorem spectrum_at : rowOf (spectrum m X Y Z) r
    = Point.sweeps (Point.covar (m (ix2 r 0)) (offs X Y Z r), Point.unit) 10 := by
  rw [spectrum, sweeps_at, rowOf, covar_at, unitMat_at]

theorem lowAxis_at (S : Mat Ideal × Mat Ideal) : (lowAxis S).at r = Point.vector (rowOf S r) 0 := by
  funext i
  rw [Point.vector, Point.place_three_first]
  fin_cases i <;> pointwise [Axis.at, lowAxis, rowOf, Mat.at]
  all_goals
    by_cases h1 : S.1.a00 (ix2 r 0) ≤ S.1.a11 (ix2 r 0) <;> by_cases h2 : S.1.a00 (ix2 r 0) ≤ S.1.a22 (ix2 r 0) <;>
      by_cases h3 : S.1.a11 (ix2 r 0) ≤ S.1.a22 (ix2 r 0) <;> simp [h1, h2, h3, Scalar.select, IntOp.andi]

theorem highAxis_at (S : Mat Ideal × Mat Ideal) : (highAxis S).at r = Point.vector (rowOf S r) 2 := by
  funext i
  rw [Point.vector, Point.place_three_last]
  fin_cases i <;> pointwise [Axis.at, highAxis, rowOf, Mat.at]
  all_goals
    by_cases h1 : S.1.a00 (ix2 r 0) ≤ S.1.a22 (ix2 r 0) <;> by_cases h2 : S.1.a11 (ix2 r 0) ≤ S.1.a22 (ix2 r 0) <;>
      by_cases h3 : S.1.a00 (ix2 r 0) ≤ S.1.a11 (ix2 r 0) <;> simp [h1, h2, h3, Scalar.select, IntOp.andi]

theorem along_at (a : Axis Ideal) : along X Y Z a (ix2 r k) = Point.inner (offs X Y Z r k) (a.at r) := by
  pointwise [along, wide, rndT, rndC, Point.inner, offs, Axis.at]

theorem orient_at (a : Axis Ideal) : (orient X Y Z a).at r = Point.orient (offs X Y Z r) (a.at r) := by
  have hc : count X Y Z a (ix2 r 0) = ∑ k, if 0 ≤ Point.inner (offs X Y Z r k) (a.at r) then (1 : EReal) else 0 := by
    pointwise [count, total, tabOf, along_at]
  have h := Point.most_iff fun k => 0 ≤ Point.inner (offs X Y Z r k) (a.at r)
  have hs : ∀ u : Col Ideal, mulf u (select (cmpf .oge (count X Y Z a) (subf (colOf 0x42000000#32) (count X Y Z a)))
      (colOf 0x3F800000#32) (colOf 0xBF800000#32)) (ix2 r 0)
      = u (ix2 r 0) * if 32 ≤ 2 * Point.count (offs X Y Z r) (a.at r) then 1 else Point.minusOne := fun u => by
    pointwise [colOf, hc]
    rw [Point.thirtyTwo, Point.count]
    congr 1
    exact if_congr h rfl rfl
  funext i
  fin_cases i <;> exact hs _

theorem cross_at (a b : Axis Ideal) : (cross a b).at r = Point.cross (a.at r) (b.at r) := by
  funext i
  fin_cases i <;> pointwise [Axis.at, cross, Point.cross]

theorem axisZ_at : (axisZ m X Y Z).at r = Point.orient (offs X Y Z r)
    (Point.vector (Point.sweeps (Point.covar (m (ix2 r 0)) (offs X Y Z r), Point.unit) 10) 0) := by
  rw [axisZ, orient_at, lowAxis_at, spectrum_at]

theorem axisX_at : (axisX m X Y Z).at r = Point.orient (offs X Y Z r)
    (Point.vector (Point.sweeps (Point.covar (m (ix2 r 0)) (offs X Y Z r), Point.unit) 10) 2) := by
  rw [axisX, orient_at, highAxis_at, spectrum_at]

/-- The first stored coordinate of one row. -/
theorem outX_at : outX m X Y Z (ix2 r k)
    = Point.finish (Point.sweeps (Point.covar (m (ix2 r 0)) (offs X Y Z r), Point.unit) 10) (offs X Y Z r) 0 k := by
  pointwise [outX, stretch, localX, localY, along_at, cross_at, dist_at, tabOf, axisX_at, axisZ_at, Point.finish, Point.spread, Point.flat,
    Point.eps]

/-- The second stored coordinate of one row. -/
theorem outY_at : outY m X Y Z (ix2 r k)
    = Point.finish (Point.sweeps (Point.covar (m (ix2 r 0)) (offs X Y Z r), Point.unit) 10) (offs X Y Z r) 1 k := by
  pointwise [outY, stretch, localX, localY, along_at, cross_at, dist_at, tabOf, axisX_at, axisZ_at, Point.finish, Point.spread, Point.flat,
    Point.eps]

end

end Cert.Knn
-- ==== Proof.KPick.lean ====
module

public import proofs.«01_k».proof.Proof.KSteps
public import proofs.«01_k».proof.Proof.Point
public import Idealize.ShloMosaic.Lib.Pointwise

@[expose] public section

set_option maxRecDepth 16384

noncomputable section

namespace Cert.Knn

open Cert.KernelIdeal Cert.KernelIdeal.Gen Idealize.ShloMosaic Idealize.SL.Sem

/-! # One row of the neighbour search

At the extended reals the search of one row takes the points of the cloud in the order of their distances. -/

/-- Row `r` of a block of distances. -/
def rowAt (d : FVec Ideal S128x2048 .f32) (r : Fin 128) (j : Fin 2048) : EReal := d (ix2 r j)

theorem fold_min_le {n : ℕ} (v : Fin n → EReal) (y : Fin n) : Finset.fold min ⊤ v Finset.univ ≤ v y :=
  (Finset.le_fold_min (b := (⊤ : EReal)) (f := v) (s := Finset.univ) _).mp le_rfl |>.2 y (Finset.mem_univ y)

/-- The smallest of the values, if there is one, is one of them. -/
theorem exists_fold_min {n : ℕ} [NeZero n] (v : Fin n → EReal) : ∃ x, IsFirstMin v x ∧ Finset.fold min ⊤ v Finset.univ = v x := by
  classical
  obtain ⟨x0, -, h0⟩ := Finset.exists_min_image Finset.univ v ⟨0, Finset.mem_univ _⟩
  have hn : (Finset.univ.filter fun x => ∀ y, v x ≤ v y).Nonempty := ⟨x0, by simpa using fun y => h0 y (Finset.mem_univ y)⟩
  have hm := Finset.min'_mem _ hn
  refine ⟨_, ⟨(Finset.mem_filter.mp hm).2, fun y hy => Finset.min'_le _ y ?_⟩, ?_⟩
  · exact Finset.mem_filter.mpr ⟨Finset.mem_univ _, fun z => hy ▸ (Finset.mem_filter.mp hm).2 z⟩
  · exact le_antisymm (fold_min_le v _)
      ((Finset.le_fold_min _).mpr ⟨le_top, fun y _ => (Finset.mem_filter.mp hm).2 y⟩)

theorem low_at (d : FVec Ideal S128x2048 .f32) (r : Fin 128) :
    low d (ix2 r 0) = Finset.fold min ⊤ (rowAt d r) Finset.univ := by
  pointwise [low, Point.infinity]
  rfl

/-- The least of some column numbers is the first column that counts. -/
theorem fold_minsi {P : Fin 2048 → Prop} [DecidablePred P] {x : Fin 2048} (hx : P x) (hf : ∀ y, P y → x ≤ y) :
    Finset.fold IntOp.minsi 2147483647#32 (fun y : Fin 2048 => if P y then BitVec.ofNat 32 (y : ℕ) else 2048#32) Finset.univ
      = BitVec.ofNat 32 (x : ℕ) := by
  have hom : ∀ a b : BitVec 32, (IntOp.minsi a b).toInt = min a.toInt b.toInt := fun a b => by
    unfold IntOp.minsi
    split_ifs with h
    · exact (min_eq_left (by rw [BitVec.slt_iff_toInt_lt] at h; omega)).symm
    · exact (min_eq_right (by rw [BitVec.slt_iff_toInt_lt] at h; omega)).symm
  have hn : ∀ y : Fin 2048, (BitVec.ofNat 32 (y : ℕ)).toInt = (y : ℤ) := fun y => by
    have := y.isLt
    rw [BitVec.toInt_eq_toNat_of_lt (by rw [BitVec.toNat_ofNat]; omega), BitVec.toNat_ofNat]
    omega
  apply BitVec.eq_of_toInt_eq
  rw [← Finset.fold_hom (op := IntOp.minsi) (op' := min) (m := BitVec.toInt) hom, hn]
  refine le_antisymm ?_ ((Finset.le_fold_min _).mpr ⟨?_, fun y _ => ?_⟩)
  · refine ((Finset.le_fold_min _).mp le_rfl).2 x (Finset.mem_univ x) |>.trans ?_
    rw [if_pos hx, hn]
  · have := x.isLt
    have e : (2147483647#32).toInt = 2147483647 := by decide
    omega
  · split_ifs with h
    · rw [hn]; exact_mod_cast hf y h
    · have := x.isLt
      have e : (2048#32).toInt = 2048 := by decide
      omega

theorem lowAt_at (d : FVec Ideal S128x2048 .f32) (r : Fin 128) {x : Fin 2048} (hx : IsFirstMin (rowAt d r) x) :
    lowAt d (ix2 r 0) = BitVec.ofNat 32 (x : ℕ) := by
  obtain ⟨x', hx', hv⟩ := exists_fold_min (rowAt d r)
  have e : rowAt d r x' = rowAt d r x := le_antisymm (hx'.1 _) (hx.1 _)
  pointwise [lowAt, low_at, cols, hv]
  exact fold_minsi (P := fun y => d (ix2 r y) = rowAt d r x') (by rw [e]; rfl) (fun y hy => hx.2 y (hy.trans e))

theorem hit_at (d : FVec Ideal S128x2048 .f32) (r : Fin 128) {x : Fin 2048} (hx : IsFirstMin (rowAt d r) x) (j : Fin 2048) :
    hit d (ix2 r j) = BitVec.ofBool (decide (j = x)) := by
  pointwise [hit, cols, lowAt_at d r hx]
  have h : BitVec.ofNat 32 (j : ℕ) = BitVec.ofNat 32 (x : ℕ) ↔ j = x := by
    refine ⟨fun h => Fin.ext ?_, fun h => h ▸ rfl⟩
    have := congrArg BitVec.toNat h
    simp only [BitVec.toNat_ofNat] at this
    omega
  unfold IntOp.cmpi
  by_cases e : j = x
  · simp [e]
  · rw [beq_eq_false_iff_ne.mpr (mt h.mp e)]
    simp [e]

theorem knock_at (d : FVec Ideal S128x2048 .f32) (r : Fin 128) {x : Fin 2048} (hx : IsFirstMin (rowAt d r) x) (j : Fin 2048) :
    knock d (ix2 r j) = if j = x then ⊤ else d (ix2 r j) := by
  pointwise [knock, hit_at d r hx, Point.infinity]

theorem column_at (q : ℕ) (hq : S128x3.Slices ![0, q] S128x1) (h3 : q < 3) (ctr : FVec Ideal S128x1 .f32)
    (tab : FVec Ideal S2048x3 .f32) (d : FVec Ideal S128x2048 .f32) (r : Fin 128) {x : Fin 2048}
    (hx : IsFirstMin (rowAt d r) x) :
    column q hq ctr tab d (ix2 r 0) = tab (ix2 x ⟨q, h3⟩) - ctr (ix2 r 0) := by
  pointwise [column, grab, hit_at d r hx]
  congr 1
  have h : ∀ y : Fin 2048, FloatOps.sitofp (F := Ideal) FTy.f32 (BitVec.setWidth 32 (BitVec.ofBool (decide (y = x))))
      = if y = x then (1 : EReal) else 0 := fun y => by
    by_cases e : y = x
    · simp [e, FloatOps.sitofp]
    · simp [e, FloatOps.sitofp]
  simp [h]

/-- After `k` steps the first `k` places of the row are raised to plus infinity. -/
theorem knocked_at (d : FVec Ideal S128x2048 .f32) (r : Fin 128) (hd : ∀ j, rowAt d r j < ⊤) (k : ℕ) (hk : k ≤ 2048) :
    rowAt (knocked d k) r = raised (rowAt d r) k := by
  induction k with
  | zero => funext j; simp [raised, knocked]
  | succ k ih =>
    have ih := ih (by omega)
    obtain ⟨x, hx, -⟩ := exists_fold_min (rowAt (knocked d k) r)
    have e : x = place (rowAt d r) ⟨k, by omega⟩ := isFirstMin_raised (k := ⟨k, by omega⟩) hd (by rw [← ih]; exact hx)
    funext j
    rw [← raised_succ (rowAt d r) ⟨k, by omega⟩ j, ← e, ← ih]
    exact knock_at (knocked d k) r hx j

/-- The first smallest value after `k` steps stands at place `k`. -/
theorem isFirstMin_knocked (d : FVec Ideal S128x2048 .f32) (r : Fin 128) (hd : ∀ j, rowAt d r j < ⊤) (k : Fin 2048) :
    IsFirstMin (rowAt (knocked d k) r) (place (rowAt d r) k) := by
  obtain ⟨x, hx, -⟩ := exists_fold_min (rowAt (knocked d k) r)
  have e : x = place (rowAt d r) k := isFirstMin_raised hd (by rw [← knocked_at d r hd k k.isLt.le]; exact hx)
  exact e ▸ hx

/-- Step `k` takes the point at place `k`. -/
theorem column_knocked (q : ℕ) (hq : S128x3.Slices ![0, q] S128x1) (h3 : q < 3) (ctr : FVec Ideal S128x1 .f32)
    (tab : FVec Ideal S2048x3 .f32) (d : FVec Ideal S128x2048 .f32) (r : Fin 128) (hd : ∀ j, rowAt d r j < ⊤) (k : Fin 2048) :
    column q hq ctr tab (knocked d k) (ix2 r 0) = tab (ix2 (place (rowAt d r) k) ⟨q, h3⟩) - ctr (ix2 r 0) :=
  column_at q hq h3 ctr tab _ r (isFirstMin_knocked d r hd k)

/-- The minimum after `k` steps is the value at place `k`. -/
theorem low_knocked (d : FVec Ideal S128x2048 .f32) (r : Fin 128) (hd : ∀ j, rowAt d r j < ⊤) (k : Fin 2048) :
    low (knocked d k) (ix2 r 0) = rowAt d r (place (rowAt d r) k) := by
  obtain ⟨x, hx, hv⟩ := exists_fold_min (rowAt (knocked d k) r)
  have e : x = place (rowAt d r) k := isFirstMin_raised hd (by rw [← knocked_at d r hd k k.isLt.le]; exact hx)
  rw [low_at, hv, e, knocked_at d r hd k k.isLt.le, raised_place]

end Cert.Knn
-- ==== Proof.KBlock.lean ====
module

public import proofs.«01_k».proof.Proof.KStores
public import proofs.«01_k».proof.Proof.KRow
public import proofs.«01_k».proof.Proof.KPick

@[expose] public section

set_option maxRecDepth 16384

noncomputable section

namespace Cert.Knn

open Cert.KernelIdeal Cert.KernelIdeal.Gen Idealize.ShloMosaic Idealize.SL.Sem
open Cert.KernelIdeal.Gen.kernelRun0_A

/-! # What one block holds

The block's result, row by row, is the computation of the row's point. -/

/-- Where a box of consecutive indices puts its own index. -/
theorem unit_val {S : Shape} (off size : Fin S.rank → ℕ) (inb : ∀ a, off a + size a ≤ S.size a)
    (x : (Rect.unit off size inb).shape.Idx) (a : Fin S.rank) : ((Rect.unit off size inb).idx x a : ℕ) = off a + x a :=
  congrArg (off a + ·) (Nat.one_mul _)

/-- The stores of the search, read back: column `k` is what step `k` found. -/
theorem pieces_at (q : ℕ) (hq : S128x3.Slices ![0, q] S128x1) (ctr : FVec Ideal S128x1 .f32) (tab : FVec Ideal S2048x3 .f32)
    (d : FVec Ideal S128x2048 .f32) (r : Fin 128) (k : Fin 32) :
    View.canon ((List.finRange 32).reverse.map (piece q hq ctr tab d)) (ix2 r k)
      = column q hq ctr tab (knocked d k) (ix2 r 0) := by
  refine View.canon_apply_of_pieces (Val := Elt Ideal) (S := S128x32) (e := .f32)
    (fun y => column q hq ctr tab (knocked d (y 1 : Fin 32)) (ix2 (y 0 : Fin 128) 0)) _ ?_ (ix2 r k) ?_
  · intro p hp
    obtain ⟨j, -, rfl⟩ := List.mem_map.mp hp
    intro (x : S128x1.Idx)
    have h0 : (Rect.unit (s := S128x32) ![0, (j : ℕ)] S128x1.size (inbounds j)).idx x 0 = (x 0 : Fin 128) :=
      Fin.ext (by rw [unit_val]; simp)
    have h1 : (Rect.unit (s := S128x32) ![0, (j : ℕ)] S128x1.size (inbounds j)).idx x 1 = j :=
      Fin.ext (by
        rw [unit_val]
        have : ((x 1 : Fin 1) : ℕ) = 0 := Nat.lt_one_iff.mp (x 1).isLt
        simpa using this)
    show column q hq ctr tab (knocked d j) x = column q hq ctr tab
      (knocked d ((Rect.unit (s := S128x32) ![0, (j : ℕ)] S128x1.size (inbounds j)).idx x 1 : Fin 32))
      (ix2 ((Rect.unit (s := S128x32) ![0, (j : ℕ)] S128x1.size (inbounds j)).idx x 0 : Fin 128) 0)
    rw [h0, h1]
    refine congrArg _ (funext fun a => ?_)
    fin_cases a
    · rfl
    · exact Subsingleton.elim (α := Fin 1) _ _
  · refine ⟨piece q hq ctr tab d k, List.mem_map.mpr ⟨k, by simp, rfl⟩, ?_⟩
    have : (Rect.unit (s := S128x32) ![0, (k : ℕ)] S128x1.size (inbounds k)).idx (ix2 r 0) = ix2 r k := funext fun a => Fin.ext (by
      rw [unit_val]
      fin_cases a <;> simp)
    exact this ▸ LoadRect.idx_mem _ _

/-- A table of the search loaded whole. -/
theorem load_at (M : Memref sig .tc .vmem S128x32 .f32) (L : List (View.Piece (Elt Ideal) S128x32 .f32)) (inb) (r : Fin 128) (k : Fin 32) :
    M.view.readCov L (Rect.unit ![0, 0] S128x32.size inb).toLoadRect (ix2 r k) = View.canon L (ix2 r k) := by
  rw [View.readCov_eq_canon']
  refine congrArg (View.canon L) (funext fun a => Fin.ext ?_)
  rw [unit_val]
  fin_cases a <;> simp

section
variable (c : Idealize.ShloMosaic.Dev nD) (arg2 : Memref sig .tc .vmem S1x128x3 .f32) (harg2 : arg2.IsWhole)
  (arg3 : Memref sig .tc .vmem S1x2048x3 .f32) (harg3 : arg3.IsWhole)
  (arg4 : Memref sig .tc .vmem S1x3x2048 .f32) (harg4 : arg4.IsWhole)
  (x0 : Vec Ideal S1x128x3 .f32) (x1 : Vec Ideal S1x2048x3 .f32) (x2 : Vec Ideal S1x3x2048 .f32) (r : Fin 128) (j : Fin 2048) (q : Fin 3)

theorem own0 : sl.r c arg2 harg2 x0 (ix2 r 0) = x0 (ix3 0 r 0) := by
  pointwise [sl.r, k0_pay1, View.readAt_eq_ld, Memref.IsWhole.read_unread, View.ld_unit]

theorem own1 : sl.r_1 c arg2 harg2 x0 (ix2 r 0) = x0 (ix3 0 r 1) := by
  pointwise [sl.r_1, k0_pay2, View.readAt_eq_ld, Memref.IsWhole.read_unread, View.ld_unit]

theorem own2 : sl.r_2 c arg2 harg2 x0 (ix2 r 0) = x0 (ix3 0 r 2) := by
  pointwise [sl.r_2, k0_pay3, View.readAt_eq_ld, Memref.IsWhole.read_unread, View.ld_unit]

theorem table_at : sl.r_3 c arg3 harg3 x1 (ix2 j q) = x1 (ix3 0 j q) := by
  pointwise [sl.r_3, k0_pay4, View.readAt_eq_ld, Memref.IsWhole.read_unread, View.ld_unit]

theorem base_at : base c arg2 harg2 arg4 harg4 x0 x2 (ix2 r j)
    = max (Point.inner (fun q => x0 (ix3 0 r q)) (fun q => x0 (ix3 0 r q))
        - Point.two * Point.inner (fun q => x0 (ix3 0 r q)) (fun q => x2 (ix3 0 q j))
        + Point.inner (fun q => x2 (ix3 0 q j)) (fun q => x2 (ix3 0 q j))) 0 := by
  pointwise [base, sl.r_4, sl.r_2, sl.r_5, sl.r_6, sl.r_7, sl.r_8, sl.r_9, k0_pay1, k0_pay2, k0_pay3, k0_pay5, k0_pay6, k0_pay7, k0_pay8, k0_pay9, k0_pay10, k0_pay11, k0_pay12, k0_pay13,
    View.readAt_eq_ld, Memref.IsWhole.read_unread, View.ld_unit, Point.inner, Point.two]

end

/-- The block a grid point writes, at the extended reals: row `r` holds the result of the point the row stands for. -/
theorem block_at (c : Idealize.ShloMosaic.Dev nD) (i : grid0.Coords) (arg2 : Memref sig .tc .vmem S1x128x3 .f32) (harg2 : arg2.IsWhole)
    (arg3 : Memref sig .tc .vmem S1x2048x3 .f32) (harg3 : arg3.IsWhole)
    (arg4 : Memref sig .tc .vmem S1x3x2048 .f32) (harg4 : arg4.IsWhole)
    (arg5 : Memref sig .tc .vmem S1x2x128x32 .f32) (harg5 : arg5.IsWhole)
    (arg6 : Memref sig .tc .vmem S128x32 .f32) (harg6 : arg6.IsWhole)
    (arg7 : Memref sig .tc .vmem S128x32 .f32) (harg7 : arg7.IsWhole)
    (arg8 : Memref sig .tc .vmem S128x32 .f32) (harg8 : arg8.IsWhole)
    (x0 : Vec Ideal S1x128x3 .f32) (x1 : Vec Ideal S1x2048x3 .f32) (x2 : Vec Ideal S1x3x2048 .f32)
    (cloud : Fin 2048 → Fin 3 → EReal) (r : Fin 128) (p : Fin 2048) (h0 : ∀ q, x0 (ix3 0 r q) = cloud p q)
    (h1 : ∀ j q, x1 (ix3 0 j q) = cloud j q) (h2 : ∀ j q, x2 (ix3 0 q j) = cloud j q)
    (hd : ∀ j, Point.gap cloud p j < ⊤) (a : Fin 2) (k : Fin 32) :
    out0_A_3 c i arg2 harg2 arg3 harg3 arg4 harg4 arg5 harg5 arg6 harg6 arg7 harg7 arg8 harg8 x0 x1 x2 (ix4 0 a r k)
      = Point.result cloud p a k := by
  have hrow : rowAt (base c arg2 harg2 arg4 harg4 x0 x2) r = Point.gap cloud p := by
    funext j
    simp only [rowAt, base_at, h0, h2, Point.gap]
  have hd' : ∀ j, rowAt (base c arg2 harg2 arg4 harg4 x0 x2) r j < ⊤ := by rw [hrow]; exact hd
  have hm : low (knocked (base c arg2 harg2 arg4 harg4 x0 x2) 32) (ix2 r 0) = Point.reach cloud p := by
    rw [show (32 : ℕ) = ((32 : Fin 2048) : ℕ) from rfl, low_knocked _ r hd', hrow]
    rfl
  have hU : offs (sl.v1018 c arg2 harg2 arg3 harg3 arg4 harg4 arg6 x0 x1 x2) (sl.v1019 c arg2 harg2 arg3 harg3 arg4 harg4 arg7 x0 x1 x2)
      (sl.v1020 c arg2 harg2 arg3 harg3 arg4 harg4 arg8 x0 x1 x2) r = Point.offset cloud p := by
    funext k q
    have hk : (k : ℕ) = ((⟨k, by omega⟩ : Fin 2048) : ℕ) := rfl
    fin_cases q
    · show sl.v1018 c arg2 harg2 arg3 harg3 arg4 harg4 arg6 x0 x1 x2 (ix2 r k) = _
      rw [loadX, load_at, storesX, pieces_at, hk, column_knocked 0 _ (by decide) _ _ _ r hd', hrow, table_at, own0, h1, h0]
      rfl
    · show sl.v1019 c arg2 harg2 arg3 harg3 arg4 harg4 arg7 x0 x1 x2 (ix2 r k) = _
      rw [loadY, load_at, storesY, pieces_at, hk, column_knocked 1 _ (by decide) _ _ _ r hd', hrow, table_at, own1, h1, h0]
      rfl
    · show sl.v1020 c arg2 harg2 arg3 harg3 arg4 harg4 arg8 x0 x1 x2 (ix2 r k) = _
      rw [loadZ, load_at, storesZ, pieces_at, hk, column_knocked 2 _ (by decide) _ _ _ r hd', hrow, table_at, own2, h1, h0]
      rfl
  obtain ⟨inb0, inb1, hs⟩ := stores c arg2 harg2 arg3 harg3 arg4 harg4 arg6 arg7 arg8 x0 x1 x2 i arg5 harg5 harg6 harg7 harg8
  have hx := outX_at (low (knocked (base c arg2 harg2 arg4 harg4 x0 x2) 32)) (sl.v1018 c arg2 harg2 arg3 harg3 arg4 harg4 arg6 x0 x1 x2)
    (sl.v1019 c arg2 harg2 arg3 harg3 arg4 harg4 arg7 x0 x1 x2) (sl.v1020 c arg2 harg2 arg3 harg3 arg4 harg4 arg8 x0 x1 x2) r k
  have hy := outY_at (low (knocked (base c arg2 harg2 arg4 harg4 x0 x2) 32)) (sl.v1018 c arg2 harg2 arg3 harg3 arg4 harg4 arg6 x0 x1 x2)
    (sl.v1019 c arg2 harg2 arg3 harg3 arg4 harg4 arg7 x0 x1 x2) (sl.v1020 c arg2 harg2 arg3 harg3 arg4 harg4 arg8 x0 x1 x2) r k
  rw [hm, hU] at hx hy
  rw [out0_A_3, hs, View.read_writes_junk_eq_canon]
  fin_cases a
  · show View.canon _ (ix4 0 0 r k) = _
    rw [View.canon_cons_of_not_mem]
    · have e : (Rect.unit (s := S1x2x128x32) ![0, 0, 0, 0] ![1, 1, 128, 32] inb0).emb (ix4 0 0 r k) = ix4 0 0 r k :=
        funext fun a => Fin.ext ((unit_val _ _ _ _ _).trans (by fin_cases a <;> simp))
      rw [← e, View.canon_cons_emb]
      refine Eq.trans ?_ hx
      pointwise
    · intro hmem
      obtain ⟨x, hx⟩ := LoadRect.exists_idx_of_mem _ hmem
      have := congrArg Fin.val (congrFun hx 1)
      rw [unit_val] at this
      simp at this
  · have e : (Rect.unit (s := S1x2x128x32) ![0, 1, 0, 0] ![1, 1, 128, 32] inb1).emb (ix4 0 0 r k) = ix4 0 1 r k :=
      funext fun a => Fin.ext ((unit_val _ _ _ _ _).trans (by fin_cases a <;> simp))
    show View.canon _ (ix4 0 1 r k) = _
    rw [← e, View.canon_cons_emb]
    refine Eq.trans ?_ hy
    pointwise

end Cert.Knn
-- ==== Proof.KValue.lean ====
/- What the kernel's result array holds when the program ends: at batch `b`, chart `a`, point `p`, neighbour `k`, the value
   `Point.result` of the batch's cloud (`final_at`). The grid point that writes point `p` of batch `b` is `16 b + p / 128`, and
   `p` is its row `p mod 128`. -/
module

public import proofs.«01_k».proof.Proof.KBlock
public import proofs.«01_k».proof.Proof.Gen.KernelIdeal.Value
public import Idealize.ShloMosaic.Lib.Pipeline.ValueKit.Tiles

@[expose] public section

set_option maxRecDepth 16384

noncomputable section

namespace Cert.Knn

open Cert.KernelIdeal Cert.KernelIdeal.Gen Idealize.ShloMosaic Idealize.ShloMosaic.TcCoe Idealize.SL.Sem

variable (m : (ℓ : Loc nD τ sig) → Buf (Elt Ideal) ℓ)

/-- The cloud of batch `b` in an input array. -/
def cloudOf (x : Vec Ideal S8x2048x3 .f32) (b : Fin 8) : Fin 2048 → Fin 3 → EReal := fun j q => x (ix3 b j q)

/-- The block each window shows at a grid point: batch `t / 16`, and for the windows cut into rows block `t mod 16`. -/
theorem block_index : ∀ t : Fin grid0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 4) = t.val / 16 ∧ win0_3.index t (1 : Fin 4) = 0 ∧ win0_3.index t (2 : Fin 4) = t.val % 16 ∧ win0_3.index t (3 : Fin 4) = 0) := by
  decide +kernel

/-- The grid point that writes point `p` of batch `b`. -/
def pointOf (b : Fin 8) (p : Fin 2048) : Fin cfg0.N := ⟨16 * b.val + p.val / 128, by
  have h : cfg0.N = 128 := N_0
  have := b.isLt; have := p.isLt
  omega⟩

/-- The row of its block a point stands in. -/
def rowIn (p : Fin 2048) : Fin 128 := ⟨p.val % 128, Nat.mod_lt _ (by decide)⟩

theorem div_point (b : Fin 8) (p : Fin 2048) : (16 * b.val + p.val / 128) / 16 = b.val := by have := p.isLt; omega
theorem mod_point (b : Fin 8) (p : Fin 2048) : (16 * b.val + p.val / 128) % 16 = p.val / 128 := by have := p.isLt; omega

/-- The result window's block places row `r` of chart `a` at the point the row stands for. -/
theorem place_result (b : Fin 8) (p : Fin 2048) (a : Fin 2) (k : Fin 32) :
    ((cfg0.win 3).blk (pointOf b p)).view.emb (ix4 0 a (rowIn p) k) = ix4 b a p k := by
  obtain ⟨_, _, _, e0, e1, e2, e3⟩ := block_index (pointOf b p)
  have d := div_point b p
  have r := mod_point b p
  funext x; apply Fin.ext
  match x with
  | ⟨0, _⟩ => show win0_3.index (pointOf b p) (0 : Fin 4) * 1 + 1 * 0 = b.val; simp only [pointOf] at e0 ⊢; omega
  | ⟨1, _⟩ => show win0_3.index (pointOf b p) (1 : Fin 4) * 2 + 1 * a.val = a.val; omega
  | ⟨2, _⟩ => show win0_3.index (pointOf b p) (2 : Fin 4) * 128 + 1 * (p.val % 128) = p.val; simp only [pointOf] at e2 ⊢; omega
  | ⟨3, _⟩ => show win0_3.index (pointOf b p) (3 : Fin 4) * 32 + 1 * k.val = k.val; omega

/-- The first window's row `rowIn p` is the point itself. -/
theorem row_point (c : Dev nD) (b : Fin 8) (p : Fin 2048) (q : Fin 3) :
    iblk m c 0 (pointOf b p) (ix3 0 (rowIn p) q) = cloudOf (m ((c : Thread nD τ).loc main_arg0)) b p q := by
  show V m c main_arg0 (((cfg0.win 0).blk (pointOf b p)).view.emb (ix3 0 (rowIn p) q)) = _
  rw [V_main_arg0]
  show m ((c : Thread nD τ).loc main_arg0) _ = m ((c : Thread nD τ).loc main_arg0) (ix3 b p q)
  congr 1
  obtain ⟨⟨e0, e1, e2⟩, _⟩ := block_index (pointOf b p)
  have d := div_point b p
  have r := mod_point b p
  funext x; apply Fin.ext
  match x with
  | ⟨0, _⟩ => show win0_0.index (pointOf b p) (0 : Fin 3) * 1 + 1 * 0 = b.val; simp only [pointOf] at e0 ⊢; omega
  | ⟨1, _⟩ => show win0_0.index (pointOf b p) (1 : Fin 3) * 128 + 1 * (p.val % 128) = p.val; simp only [pointOf] at e1 ⊢; omega
  | ⟨2, _⟩ => show win0_0.index (pointOf b p) (2 : Fin 3) * 3 + 1 * q.val = q.val; omega

/-- The second window shows the whole cloud of the batch. -/
theorem whole_cloud (c : Dev nD) (b : Fin 8) (p : Fin 2048) (j : Fin 2048) (q : Fin 3) :
    iblk m c 1 (pointOf b p) (ix3 0 j q) = cloudOf (m ((c : Thread nD τ).loc main_arg0)) b j q := by
  show V m c main_arg0 (((cfg0.win 1).blk (pointOf b p)).view.emb (ix3 0 j q)) = _
  rw [V_main_arg0]
  show m ((c : Thread nD τ).loc main_arg0) _ = m ((c : Thread nD τ).loc main_arg0) (ix3 b j q)
  congr 1
  obtain ⟨_, ⟨e0, e1, e2⟩, _⟩ := block_index (pointOf b p)
  have d := div_point b p
  funext x; apply Fin.ext
  match x with
  | ⟨0, _⟩ => show win0_1.index (pointOf b p) (0 : Fin 3) * 1 + 1 * 0 = b.val; simp only [pointOf] at e0 ⊢; omega
  | ⟨1, _⟩ => show win0_1.index (pointOf b p) (1 : Fin 3) * 2048 + 1 * j.val = j.val; omega
  | ⟨2, _⟩ => show win0_1.index (pointOf b p) (2 : Fin 3) * 3 + 1 * q.val = q.val; omega

/-- The array the third window is cut from is the input with its last two axes exchanged. -/
theorem V_exchanged (c : Dev nD) :
    V m c main_call0_v0 = transpose S8x3x2048 [0, 2, 1] (m ((c : Thread nD τ).loc main_arg0)) transposes_S8x2048x3_S8x3x2048_0_2_1 := by
  show StableHlo.after hostOps0 _ (Proc.devRef .tc main_call0_v0) = _
  after_results
  rfl

/-- The third window shows the whole cloud of the batch, coordinate first. -/
theorem whole_exchanged (c : Dev nD) (b : Fin 8) (p : Fin 2048) (j : Fin 2048) (q : Fin 3) :
    iblk m c 2 (pointOf b p) (ix3 0 q j) = cloudOf (m ((c : Thread nD τ).loc main_arg0)) b j q := by
  show V m c main_call0_v0 (((cfg0.win 2).blk (pointOf b p)).view.emb (ix3 0 q j)) = _
  rw [V_exchanged]
  have h : ((cfg0.win 2).blk (pointOf b p)).view.emb (ix3 0 q j) = ix3 b q j := by
    obtain ⟨_, _, ⟨e0, e1, e2⟩, _⟩ := block_index (pointOf b p)
    have d := div_point b p
    funext x; apply Fin.ext
    match x with
    | ⟨0, _⟩ => show win0_2.index (pointOf b p) (0 : Fin 3) * 1 + 1 * 0 = b.val; simp only [pointOf] at e0 ⊢; omega
    | ⟨1, _⟩ => show win0_2.index (pointOf b p) (1 : Fin 3) * 3 + 1 * q.val = q.val; omega
    | ⟨2, _⟩ => show win0_2.index (pointOf b p) (2 : Fin 3) * 2048 + 1 * j.val = j.val; omega
  rw [h]
  pointwise [cloudOf]

/-- The kernel's result at an index, when every squared distance from the point is finite. -/
theorem final_at (c : Dev nD) (b : Fin 8) (p : Fin 2048)
    (hd : ∀ j, Point.gap (cloudOf (m ((c : Thread nD τ).loc main_arg0)) b) p j < ⊤) (a : Fin 2) (k : Fin 32) :
    (dats m 0 c).arrAt 3 cfg0.N (ix4 b a p k) = Point.result (cloudOf (m ((c : Thread nD τ).loc main_arg0)) b) p a k := by
  have h := congrFun (Cert.KernelIdeal.Value.blocks3 m c (pointOf b p) (flush0_3 _)) (ix4 0 a (rowIn p) k)
  rw [Cert.KernelIdeal.Value.flushed3_A] at h
  have h' : (dats m 0 c).arrAt 3 cfg0.N (((cfg0.win 3).blk (pointOf b p)).view.emb (ix4 0 a (rowIn p) k)) = _ := h
  rw [place_result] at h'
  refine h'.trans ?_
  exact block_at c _ _ _ _ _ _ _ _ _ _ _ _ _ _ _ _ _ _ _ (rowIn p) p (row_point m c b p) (whole_cloud m c b p)
    (fun j q => whole_exchanged m c b p j q) hd a k

end Cert.Knn
-- ==== Proof.RTurn.lean ====
/- One sweep of the reference's loop. The loop's body turns the matrix in three planes; the cosine and the sine of each turn
   are the same function of three entries of the matrix (`cosT`, `sinT`), read at a point in `cosT_at` and `sinT_at`. Each
   turn's matrix is `Point.turn` (`turn02`, `turn12`, `turn01`), so a trip of the loop takes every point's two matrices to
   their `Point.sweep` (`step_at`). -/
module

public import proofs.«01_k».proof.Proof.Point
public import proofs.«01_k».proof.Proof.Gen.ReferenceIdeal.Step
public import Idealize.ShloMosaic.Lib.Pointwise

@[expose] public section

set_option maxRecDepth 16384

noncomputable section

namespace Cert.Knn.Ref

open Cert.ReferenceIdeal Cert.ReferenceIdeal.Gen Cert.ReferenceIdeal.Step Idealize.ShloMosaic Idealize.SL.Sem

/-- One number per point. -/
abbrev Col := FVec Ideal S8x2048 .f32

/-- One matrix per point. -/
abbrev Mats := FVec Ideal S8x2048x3x3 .f32

/-- The matrix of a point. -/
def matOf (X : Mats) (b : Fin 8) (p : Fin 2048) : Point.M3 := fun i j => X (ix4 b p i j)

/-- A constant at every point. -/
def every (w : BitVec 32) : Col := broadcastInDim S8x2048 ![] bcast_S_S8x2048 (constant (F := Ideal) S_ .f32 w)

/-- A constant at every point, as a selection's branch writes it. -/
def everyTwice (w : BitVec 32) : Col :=
  broadcastInDim S8x2048 ![1] bcast_S2048_S8x2048_1 (broadcastInDim S2048 ![] bcast_S_S2048 (constant (F := Ideal) S_ .f32 w))

/-- Where the entry to be removed is zero already. -/
def flatT (apq : Col) : IVec S8x2048 1 := cmpf .oeq (mulf (every 0x40000000#32) apq) (every 0x00000000#32)

/-- The cotangent of the double angle. -/
def cotT (app aqq apq : Col) : Col :=
  Host.divf (subf aqq app) (select (flatT apq) (everyTwice 0x3F800000#32) (mulf (every 0x40000000#32) apq))

/-- The tangent. -/
def tanT (app aqq apq : Col) : Col :=
  Host.divf (select (cmpf .oge (cotT app aqq apq) (every 0x00000000#32)) (everyTwice 0x3F800000#32) (everyTwice 0xBF800000#32))
    (addf (Host.absf (cotT app aqq apq)) (Host.sqrt (addf (every 0x3F800000#32) (mulf (cotT app aqq apq) (cotT app aqq apq)))))

/-- The cosine before the selection. -/
def rawT (app aqq apq : Col) : Col :=
  Host.divf (every 0x3F800000#32) (Host.sqrt (addf (every 0x3F800000#32) (mulf (tanT app aqq apq) (tanT app aqq apq))))

/-- The cosine. -/
def cosT (app aqq apq : Col) : Col := select (flatT apq) (everyTwice 0x3F800000#32) (rawT app aqq apq)

/-- The sine. -/
def sinT (app aqq apq : Col) : Col :=
  select (flatT apq) (everyTwice 0x00000000#32) (mulf (tanT app aqq apq) (rawT app aqq apq))

section
variable (app aqq apq : Col) (b : Fin 8) (p : Fin 2048)

theorem cotT_at : cotT app aqq apq (ix2 b p) = Point.cot (app (ix2 b p)) (aqq (ix2 b p)) (apq (ix2 b p)) := by
  pointwise [cotT, flatT, every, everyTwice, Point.cot, Point.two]

theorem tanT_at : tanT app aqq apq (ix2 b p) = Point.tangent (app (ix2 b p)) (aqq (ix2 b p)) (apq (ix2 b p)) := by
  pointwise [tanT, every, everyTwice, cotT_at, Point.tangent, Point.minusOne]

theorem rawT_at : rawT app aqq apq (ix2 b p) = Point.cosRaw (app (ix2 b p)) (aqq (ix2 b p)) (apq (ix2 b p)) := by
  pointwise [rawT, every, tanT_at, Point.cosRaw]

theorem cosT_at : cosT app aqq apq (ix2 b p) = Point.cosine (app (ix2 b p)) (aqq (ix2 b p)) (apq (ix2 b p)) := by
  pointwise [cosT, flatT, every, everyTwice, rawT_at, Point.cosine, Point.two]

theorem sinT_at : sinT app aqq apq (ix2 b p) = Point.sine (app (ix2 b p)) (aqq (ix2 b p)) (apq (ix2 b p)) := by
  pointwise [sinT, flatT, every, everyTwice, rawT_at, tanT_at, Point.sine, Point.two]

end

section
variable (j : ℕ) (s : State Ideal) (b : Fin 8) (p : Fin 2048)

theorem cos02 : b53 j s = cosT (b13 j s) (b11 j s) (b3 j s) := rfl
theorem sin02 : b58 j s = sinT (b13 j s) (b11 j s) (b3 j s) := rfl
theorem cos12 : b138 j s = cosT (b98 j s) (b96 j s) (b88 j s) := rfl
theorem sin12 : b143 j s = sinT (b98 j s) (b96 j s) (b88 j s) := rfl
theorem cos01 : b223 j s = cosT (b183 j s) (b181 j s) (b173 j s) := rfl
theorem sin01 : b228 j s = sinT (b183 j s) (b181 j s) (b173 j s) := rfl

/-- The entries of the first turn's matrix. -/
theorem turn02 (i k : Fin 3) : b82 j s (ix4 b p i k) = Point.turn 0 2 (matOf s.main_v63_2 b p) i k := by
  have h1 : b3 j s (ix2 b p) = matOf s.main_v63_2 b p 0 2 := by pointwise [b3, b2, matOf]
  have h2 : b13 j s (ix2 b p) = matOf s.main_v63_2 b p 0 0 := by pointwise [b13, b12, matOf]
  have h3 : b11 j s (ix2 b p) = matOf s.main_v63_2 b p 2 2 := by pointwise [b11, b10, matOf]
  unfold Point.turn
  rw [← h1, ← h2, ← h3, ← cosT_at, ← sinT_at, ← cos02, ← sin02]
  pointwise [b82, b81, b80, b79, b78, b77, b76, b75, b74, b73, b72, b71, b70, b69, b68, b67, b66, b65, b64, b63, b62, b61, b60, b59]
  fin_cases i <;> fin_cases k <;> simp

/-- The entries of the second turn's matrix. -/
theorem turn12 (i k : Fin 3) : b167 j s (ix4 b p i k) = Point.turn 1 2 (matOf (b85 j s) b p) i k := by
  have h1 : b88 j s (ix2 b p) = matOf (b85 j s) b p 1 2 := by pointwise [b88, b87, matOf]
  have h2 : b98 j s (ix2 b p) = matOf (b85 j s) b p 1 1 := by pointwise [b98, b97, matOf]
  have h3 : b96 j s (ix2 b p) = matOf (b85 j s) b p 2 2 := by pointwise [b96, b95, matOf]
  unfold Point.turn
  rw [← h1, ← h2, ← h3, ← cosT_at, ← sinT_at, ← cos12, ← sin12]
  pointwise [b167, b166, b165, b164, b163, b162, b161, b160, b159, b158, b157, b156, b155, b154, b153, b152, b151, b150, b149, b148, b147, b146, b145, b144]
  fin_cases i <;> fin_cases k <;> simp

/-- The entries of the third turn's matrix. -/
theorem turn01 (i k : Fin 3) : b252 j s (ix4 b p i k) = Point.turn 0 1 (matOf (b170 j s) b p) i k := by
  have h1 : b173 j s (ix2 b p) = matOf (b170 j s) b p 0 1 := by pointwise [b173, b172, matOf]
  have h2 : b183 j s (ix2 b p) = matOf (b170 j s) b p 0 0 := by pointwise [b183, b182, matOf]
  have h3 : b181 j s (ix2 b p) = matOf (b170 j s) b p 1 1 := by pointwise [b181, b180, matOf]
  unfold Point.turn
  rw [← h1, ← h2, ← h3, ← cosT_at, ← sinT_at, ← cos01, ← sin01]
  pointwise [b252, b251, b250, b249, b248, b247, b246, b245, b244, b243, b242, b241, b240, b239, b238, b237, b236, b235, b234, b233, b232, b231, b230, b229]
  fin_cases i <;> fin_cases k <;> simp

/-- The product of two matrices at every point. -/
def prodT (X Y : Mats) : Mats := Host.dotGeneral dot_S8x2048x3x3_S8x2048x3x3_S8x2048x3x3_3_2_2_3_01_01 none X Y

/-- The transpose of a matrix at every point. -/
def flipT (X : Mats) : Mats := transpose S8x2048x3x3 [0, 1, 3, 2] X transposes_S8x2048x3x3_S8x2048x3x3_0_1_3_2

theorem prodT_at (X Y : Mats) : matOf (prodT X Y) b p = Point.mul (matOf X b p) (matOf Y b p) := by
  funext i k
  pointwise [prodT, matOf, Point.mul]

theorem flipT_at (X : Mats) : matOf (flipT X) b p = fun i k => matOf X b p k i := by
  funext i k
  pointwise [flipT, matOf]

/-- The two matrices of a point after a rotation whose matrix is `G`. -/
theorem rotate_at (q r : Fin 3) (A V G : Mats) (hG : ∀ i k, G (ix4 b p i k) = Point.turn q r (matOf A b p) i k) :
    (matOf (prodT (flipT G) (prodT A G)) b p, matOf (prodT V G) b p) = Point.rotate q r (matOf A b p, matOf V b p) := by
  have h : matOf G b p = Point.turn q r (matOf A b p) := funext fun i => funext fun k => hG i k
  rw [prodT_at, flipT_at, prodT_at, prodT_at, h]
  rfl

/-- A trip of the loop is a sweep at every point. -/
theorem step_at : (matOf (step j s).main_v63_2 b p, matOf (step j s).main_v63_3 b p)
    = Point.sweep (matOf s.main_v63_2 b p, matOf s.main_v63_3 b p) := by
  have e1 := rotate_at b p 0 2 s.main_v63_2 s.main_v63_3 (b82 j s) (turn02 j s b p)
  have e2 := rotate_at b p 1 2 (b85 j s) (b86 j s) (b167 j s) (turn12 j s b p)
  have e3 := rotate_at b p 0 1 (b170 j s) (b171 j s) (b252 j s) (turn01 j s b p)
  have f1 : (matOf (b85 j s) b p, matOf (b86 j s) b p) = Point.rotate 0 2 (matOf s.main_v63_2 b p, matOf s.main_v63_3 b p) := e1
  have f2 : (matOf (b170 j s) b p, matOf (b171 j s) b p) = Point.rotate 1 2 (matOf (b85 j s) b p, matOf (b86 j s) b p) := e2
  have f3 : (matOf (b255 j s) b p, matOf (b256 j s) b p) = Point.rotate 0 1 (matOf (b170 j s) b p, matOf (b171 j s) b p) := e3
  rw [Point.sweep, ← f1, ← f2, ← f3]
  rfl

end

end Cert.Knn.Ref
-- ==== Proof.RSort.lean ====
/- The reference's two sorts and its gather, read at an index. Both comparisons say which key is smaller (`before_key`,
   `before_value`); so a sorted array's entry is the one at the key's place in its row (`sorted_keys`, `sorted_order`,
   `sorted_vectors`). The gather by an index inside the cloud reads the point of that number (`gather_at`). -/
module

public import proofs.«01_k».proof.Proof.Rank
public import proofs.«01_k».proof.ReferenceIdeal
public import proofs.«01_k».proof.Proof.Gen.ReferenceIdeal
public import Idealize.ShloMosaic.Lib.Pointwise

@[expose] public section

set_option maxRecDepth 16384

noncomputable section

namespace Cert.Knn.Ref

open Cert.ReferenceIdeal Cert.ReferenceIdeal.Gen Idealize.ShloMosaic Idealize.SL.Sem

theorem zero_or (a : EReal) : (if a = 0 then 0 else a) = a := by
  split
  · next h => exact h.symm
  · rfl

theorem below (a b : EReal) : FloatOps.cmpfTotal (F := Ideal) (φ := .f32) CmpDirection.lt a b = 1#1 ↔ a < b := by
  show Ideal.cmp CmpFPredicate.olt a b = 1#1 ↔ a < b
  unfold Ideal.cmp
  by_cases h : a < b <;> simp [h]

/-- The comparison of the distances' sort. -/
theorem before_key (l r : EReal × BitVec 32) : comparator_f32_i32_d2 (F := Ideal) l r = 1#1 ↔ l.1 < r.1 := by
  pointwise [comparator_f32_i32_d2]
  rw [if_neg (not_not_intro (Eq.refl l.1)), if_neg (not_not_intro (Eq.refl r.1)), zero_or, zero_or, below]

/-- The comparison of the eigenvalues' sort. -/
theorem before_value (l r : EReal × EReal) : comparator_f32_f32_d3 (F := Ideal) l r = 1#1 ↔ l.1 < r.1 := by
  pointwise [comparator_f32_f32_d3]
  rw [if_neg (not_not_intro (Eq.refl l.1)), if_neg (not_not_intro (Eq.refl r.1)), zero_or, zero_or, below]

/-- A sort of keys with a payload, by a comparison that says which key is smaller, takes entry `k` from the `k`-th place. -/
theorem sorted_place {n : ℕ} {β : Type} (cmp : EReal × β → EReal × β → BitVec 1) (hc : ∀ l r, cmp l r = 1#1 ↔ l.1 < r.1)
    (X : Fin n → EReal) (Y : Fin n → β) (k : Fin n) :
    sortedFrom (fun i j => cmp (X i, Y i) (X j, Y j) == 1#1) k = place X k :=
  sortedFrom_eq_place X _ (fun i j => by rw [beq_iff_eq, hc]) k

theorem along_row (b : Fin 8) (p k j : Fin 2048) : (ix3 b p k : S8x2048x2048.Idx).along (2 : Fin 3) j = ix3 b p j := by
  funext a; fin_cases a <;> rfl

theorem along_entry (b : Fin 8) (p : Fin 2048) (i k j : Fin 3) : (ix4 b p i k : S8x2048x3x3.Idx).along (3 : Fin 4) j = ix4 b p i j := by
  funext a; fin_cases a <;> rfl

section
variable (d : FVec Ideal S8x2048x2048 .f32) (y : IVec S8x2048x2048 32) (b : Fin 8) (p k : Fin 2048)

/-- The position the distances' sort takes entry `k` from. -/
theorem order_place :
    sortedFrom (fun i j : Fin 2048 => comparator_f32_i32_d2 (F := Ideal)
      (d ((ix3 b p k : S8x2048x2048.Idx).along (2 : Fin 3) i), y ((ix3 b p k : S8x2048x2048.Idx).along (2 : Fin 3) i))
      (d ((ix3 b p k : S8x2048x2048.Idx).along (2 : Fin 3) j), y ((ix3 b p k : S8x2048x2048.Idx).along (2 : Fin 3) j)) == 1#1) k
      = place (fun j => d (ix3 b p j)) k :=
  (sorted_place _ before_key (fun j => d ((ix3 b p k : S8x2048x2048.Idx).along (2 : Fin 3) j)) _ k).trans
    (congrArg (fun X => place X k) (funext fun j => congrArg d (along_row b p k j)))

/-- The sorted distances of a point. -/
theorem sorted_keys : (Host.sort2 S8x2048x2048 2 (comparator_f32_i32_d2 (F := Ideal)) d y).1 (ix3 b p k)
      = d (ix3 b p (place (fun j => d (ix3 b p j)) k)) :=
  (congrArg (fun t : Fin 2048 => d ((ix3 b p k : S8x2048x2048.Idx).along (2 : Fin 3) t)) (order_place d y b p k)).trans
    (congrArg d (along_row b p k _))

/-- The payload of the sorted distances of a point. -/
theorem sorted_order : (Host.sort2 S8x2048x2048 2 (comparator_f32_i32_d2 (F := Ideal)) d y).2 (ix3 b p k)
      = y (ix3 b p (place (fun j => d (ix3 b p j)) k)) :=
  (congrArg (fun t : Fin 2048 => y ((ix3 b p k : S8x2048x2048.Idx).along (2 : Fin 3) t)) (order_place d y b p k)).trans
    (congrArg y (along_row b p k _))

end

/-- The payload of the sorted eigenvalues of a point, row by row. -/
theorem sorted_vectors (d y : FVec Ideal S8x2048x3x3 .f32) (b : Fin 8) (p : Fin 2048) (i k : Fin 3) :
    (Host.sort2 S8x2048x3x3 3 (comparator_f32_f32_d3 (F := Ideal)) d y).2 (ix4 b p i k)
      = y (ix4 b p i (place (fun j => d (ix4 b p i j)) k)) :=
  (congrArg (fun t : Fin 3 => y ((ix4 b p i k : S8x2048x3x3.Idx).along (3 : Fin 4) t))
    ((sorted_place _ before_value (fun j => d ((ix4 b p i k : S8x2048x3x3.Idx).along (3 : Fin 4) j))
        (fun j => y ((ix4 b p i k : S8x2048x3x3.Idx).along (3 : Fin 4) j)) k).trans
      (congrArg (fun X => place X k) (funext fun j => congrArg d (along_entry b p i k j))))).trans
    (congrArg y (along_entry b p i k _))

/-- The gather by an index inside the cloud. -/
theorem gather_at (x : FVec Ideal S8x2048x3 .f32) (y : IVec S8x2048x32x1 32) (b : Fin 8) (p : Fin 2048) (k : Fin 32) (q : Fin 3)
    (v : Fin 2048) (hv : y (ix4 b p k 0) = BitVec.ofNat 32 v.val) :
    Host.gather gather_S8x2048x3_S8x2048x32x1_S8x2048x32x3_3_1_0_0_1_3_113 x y (ix4 b p k q) = x (ix3 b v q) := by
  unfold Host.gather
  congr 1
  have hi : (y (ix4 b p k 0)).toInt.toNat = v.val := by
    rw [hv, BitVec.toInt_eq_toNat_cond, BitVec.toNat_ofNat]
    have := v.isLt
    split <;> omega
  have hn : ∀ z : S8x2048x32x1.Idx, z = ix4 b p k 0 → (y z).toInt.toNat = v.val := fun z hz => by rw [hz, hi]
  funext a
  apply Fin.ext
  fin_cases a
  · show 0 + b.val + 0 = b.val; omega
  · show min (y _).toInt.toNat 2047 + 0 + 0 = v.val
    rw [hn]
    · have := v.isLt
      omega
    · funext a; fin_cases a <;> rfl
  · show 0 + 0 + q.val = q.val; omega

end Cert.Knn.Ref
-- ==== Proof.RStart.lean ====
/- What the reference computes before its loop, at a point of a batch: the distances are increasing in the squared distances
   (`root_lt`), so their order is the squared distances' (`order_at`); the neighbours' offsets (`offset_at`), the radius
   (`radius_at`), the covariance (`covar_at`) and the unit matrix (`unit_at`). -/
module

public import proofs.«01_k».proof.Proof.RTurn
public import proofs.«01_k».proof.Proof.RSort

@[expose] public section

set_option maxRecDepth 16384

noncomputable section

namespace Cert.Knn.Ref

open Cert.ReferenceIdeal Cert.ReferenceIdeal.Gen Cert.ReferenceIdeal.Step Idealize.ShloMosaic Idealize.SL.Sem

/-- The cloud of batch `b`. -/
def cloud (x : FVec Ideal S8x2048x3 .f32) (b : Fin 8) : Fin 2048 → Fin 3 → EReal := fun j q => x (ix3 b j q)

theorem eps_real : ∃ e : ℝ, 0 < e ∧ Point.eps = (e : EReal) := by
  refine ⟨_, ?_, by simp [Point.eps, Ideal.ofBits, Ideal.ieee, -EReal.coe_mul]; rfl⟩
  norm_num

theorem root_coe {r : ℝ} (h : 0 ≤ r) : Ideal.sqrt (r : EReal) = ((Real.sqrt r : ℝ) : EReal) := by
  show (if r < 0 then ⊥ else ((Real.sqrt r : ℝ) : EReal)) = _
  rw [if_neg (not_lt.mpr h)]

/-- The distance is strictly increasing in a finite squared distance. -/
theorem root_lt {a b : EReal} (ha : 0 ≤ a) (hb : 0 ≤ b) (ha' : a < ⊤) (hb' : b < ⊤) :
    Ideal.sqrt (a + Point.eps) < Ideal.sqrt (b + Point.eps) ↔ a < b := by
  obtain ⟨e, he, h⟩ := eps_real
  rw [h]
  induction a using EReal.rec with
  | bot => simp at ha
  | top => simp at ha'
  | coe a =>
    induction b using EReal.rec with
    | bot => simp at hb
    | top => simp at hb'
    | coe b =>
      have ha0 : (0 : ℝ) ≤ a := by exact_mod_cast ha
      have hb0 : (0 : ℝ) ≤ b := by exact_mod_cast hb
      rw [← EReal.coe_add, ← EReal.coe_add]
      rw [root_coe (add_nonneg ha0 he.le), root_coe (add_nonneg hb0 he.le)]
      rw [EReal.coe_lt_coe_iff, EReal.coe_lt_coe_iff, Real.sqrt_lt_sqrt_iff (add_nonneg ha0 he.le)]
      constructor <;> intro h <;> linarith

/-- A position in the cloud, as a word, is not negative. -/
theorem not_negative (v : Fin 2048) : IntOp.cmpi CmpIPredicate.slt (BitVec.ofNat 32 v.val) 0#32 = 0#1 := by
  revert v
  decide +kernel

theorem gap_nonneg {n : ℕ} (x : Fin n → Fin 3 → EReal) (p j : Fin n) : 0 ≤ Point.gap x p j := le_max_right _ _

section
variable (x : FVec Ideal S8x2048x3 .f32) (b : Fin 8) (p : Fin 2048)

/-- The distances. -/
theorem distance_at (j : Fin 2048) : A_main_v16 (F := Ideal) x (ix3 b p j) = Ideal.sqrt (Point.gap (cloud x b) p j + Point.eps) := by
  pointwise [A_main_v16, A_main_v15, A_main_v13, A_main_v11, A_main_v10, A_main_v9, A_main_v8, A_main_v7, A_main_v6, A_main_v4, A_main_v3,
    A_main_v2, A_main_v1, A_main_v0, K_main_cst, K_main_cst_0, K_main_v5, K_main_cst_1, K_main_v12, K_main_cst_2, K_main_v14,
    Point.gap, Point.inner, Point.two, Point.eps, cloud, Fin.sum_univ_three]

/-- The unit matrix. -/
theorem unit_at : matOf (K_main_v62 (F := Ideal)) b p = Point.unit := by
  funext i k
  pointwise [matOf, K_main_v62, K_main_v61, K_main_v60, K_main_v59, K_main_v58, K_main_v57, K_main_v56, K_main_v55, K_main_c_9, Point.unit]
  fin_cases i <;> fin_cases k <;> simp [IntOp.cmpi, IntOp.addi, FloatOps.uitofp]

variable (hd : ∀ j, Point.gap (cloud x b) p j < ⊤)
include hd

/-- The order of the distances is the order of the squared distances. -/
theorem place_at (k : Fin 2048) : place (fun j => A_main_v16 (F := Ideal) x (ix3 b p j)) k = place (Point.gap (cloud x b) p) k := by
  refine place_congr (fun i j => ?_) k
  rw [distance_at, distance_at]
  exact root_lt (gap_nonneg _ _ _) (gap_nonneg _ _ _) (hd i) (hd j)

/-- The sorted positions. -/
theorem order_at (k : Fin 2048) : A_main_v19_1 (F := Ideal) x (ix3 b p k) = BitVec.ofNat 32 (place (Point.gap (cloud x b) p) k).val := by
  unfold A_main_v19_1
  rw [sorted_order, place_at x b p hd]
  pointwise [K_main_v18, K_main_v17]

/-- The radius. -/
theorem radius_at : A_main_v21 (F := Ideal) x (ix2 b p) = Ideal.sqrt (Point.reach (cloud x b) p + Point.eps) := by
  have h : A_main_v21 (F := Ideal) x (ix2 b p) = A_main_v19_0 (F := Ideal) x (ix3 b p 32) := by
    pointwise [A_main_v21, A_main_v20]
  rw [h]
  unfold A_main_v19_0
  rw [sorted_keys, place_at x b p hd, distance_at]
  rfl

/-- The positions gathered from. -/
theorem taken_at (k : Fin 32) :
    A_main_v28 (F := Ideal) x (ix4 b p k 0) = BitVec.ofNat 32 (place (Point.gap (cloud x b) p) ⟨k, by omega⟩).val := by
  have h : A_main_v22 (F := Ideal) x (ix3 b p k) = BitVec.ofNat 32 (place (Point.gap (cloud x b) p) ⟨k, by omega⟩).val := by
    rw [← order_at x b p hd]
    pointwise [A_main_v22]
  pointwise [A_main_v28, A_main_v27, A_main_v24, A_main_v26, K_main_v23, K_main_c, K_main_v25, K_main_c_3, h]
  rw [not_negative]
  rfl

/-- The neighbours' offsets. -/
theorem offset_at (k : Fin 32) (q : Fin 3) : A_main_v32 (F := Ideal) x (ix4 b p k q) = Point.offset (cloud x b) p k q := by
  have h : A_main_v29 (F := Ideal) x (ix4 b p k q) = _ := gather_at x (A_main_v28 (F := Ideal) x) b p k q _ (taken_at x b p hd k)
  pointwise [A_main_v32, A_main_v31, A_main_v30, h, Point.offset, cloud]

/-- The weights. -/
theorem weight_at (k : Fin 32) :
    A_main_v40 (F := Ideal) x (ix3 b p k) = Point.weight (Point.reach (cloud x b) p) (Point.offset (cloud x b) p) k := by
  pointwise [A_main_v40, A_main_v39, A_main_v38, A_main_v37, A_main_v36, A_main_v34, A_main_v33, K_main_cst_4, K_main_cst_5, K_main_v35,
    radius_at x b p hd, offset_at x b p hd, Point.weight, Point.dist, Point.inner, Point.eps, Fin.sum_univ_three]

/-- The covariance before it is made symmetric. -/
theorem rawCovar_at (i k : Fin 3) :
    A_main_v50 (F := Ideal) x (ix4 b p i k) = Point.covar (Point.reach (cloud x b) p) (Point.offset (cloud x b) p) i k := by
  pointwise [A_main_v50, A_main_v49, A_main_v48, A_main_v46, A_main_v45, A_main_v44, A_main_v43, A_main_v42, A_main_v41,
    K_main_cst_6, K_main_cst_7, K_main_v47, weight_at x b p hd, offset_at x b p hd, Point.covar, Point.eps]

/-- The covariance. -/
theorem covar_at : matOf (A_main_v54 (F := Ideal) x) b p = Point.covar (Point.reach (cloud x b) p) (Point.offset (cloud x b) p) := by
  funext i k
  pointwise [matOf, A_main_v54, A_main_v52, A_main_v51, K_main_cst_8, K_main_v53, rawCovar_at x b p hd]
  rw [Point.covar_comm _ _ k i, Point.half_double]

end

end Cert.Knn.Ref
-- ==== Proof.REnd.lean ====
/- What the reference computes after its loop, written in steps (`finishT`): the eigenvectors of the smallest and of the
   greatest eigenvalue, each turned to the side of most neighbours, their cross product, and the planar coordinates. -/
module

public import proofs.«01_k».proof.Proof.RTurn
public import proofs.«01_k».proof.Proof.RSort

@[expose] public section

set_option maxRecDepth 16384

noncomputable section

namespace Cert.Knn.Ref

open Cert.ReferenceIdeal Cert.ReferenceIdeal.Gen Cert.ReferenceIdeal.Step Idealize.ShloMosaic Idealize.SL.Sem

/-- The neighbours' offsets of every point. -/
abbrev Nbhd := FVec Ideal S8x2048x32x3 .f32

/-- One axis per point. -/
abbrev Axes := FVec Ideal S8x2048x3 .f32

/-- The diagonal entries of every matrix, in every row. -/
def valuesT (A : Mats) : Mats :=
  broadcastInDim S8x2048x3x3 ![0, 1, 2, 3] bcast_S8x2048x1x3_S8x2048x3x3_0_1_2_3
    (broadcastInDim S8x2048x1x3 ![0, 1, 3] bcast_S8x2048x3_S8x2048x1x3_0_1_3
      (concatenate S8x2048x3 2
        [⟨S8x2048x1, broadcastInDim S8x2048x1 ![0, 1] bcast_S8x2048_S8x2048x1_0_1
            (shapeCast S8x2048 (extractStridedSlice S8x2048x1x1 ![0, 0, 0, 0] A slices_S8x2048x3x3_S8x2048x1x1_0_0_0_0) shapeCasts_S8x2048x1x1_S8x2048)⟩,
         ⟨S8x2048x1, broadcastInDim S8x2048x1 ![0, 1] bcast_S8x2048_S8x2048x1_0_1
            (shapeCast S8x2048 (extractStridedSlice S8x2048x1x1 ![0, 0, 1, 1] A slices_S8x2048x3x3_S8x2048x1x1_0_0_1_1) shapeCasts_S8x2048x1x1_S8x2048)⟩,
         ⟨S8x2048x1, broadcastInDim S8x2048x1 ![0, 1] bcast_S8x2048_S8x2048x1_0_1
            (shapeCast S8x2048 (extractStridedSlice S8x2048x1x1 ![0, 0, 2, 2] A slices_S8x2048x3x3_S8x2048x1x1_0_0_2_2) shapeCasts_S8x2048x1x1_S8x2048)⟩]
        concatenates_S8x2048x1_S8x2048x1_S8x2048x1_S8x2048x3_d2))

/-- The eigenvectors by ascending eigenvalue. -/
def sortedT (A V : Mats) : Mats := (Host.sort2 S8x2048x3x3 3 (comparator_f32_f32_d3 (F := Ideal)) (valuesT A) V).2

/-- The first column. -/
def lowT (W : Mats) : Axes :=
  shapeCast S8x2048x3 (extractStridedSlice S8x2048x3x1 ![0, 0, 0, 0] W slices_S8x2048x3x3_S8x2048x3x1_0_0_0_0) shapeCasts_S8x2048x3x1_S8x2048x3

/-- The last column. -/
def highT (W : Mats) : Axes :=
  shapeCast S8x2048x3 (extractStridedSlice S8x2048x3x1 ![0, 0, 0, 2] W slices_S8x2048x3x3_S8x2048x3x1_0_0_0_2) shapeCasts_S8x2048x3x1_S8x2048x3

/-- Which neighbours lie on an axis' positive side. -/
def sideT (U : Nbhd) (a : Axes) : IVec S8x2048x32 1 :=
  cmpf .oge (Host.dotGeneral dot_S8x2048x32x3_S8x2048x3_S8x2048x32_3_2_2_n_01_01 none U a)
    (broadcastInDim S8x2048x32 ![] bcast_S_S8x2048x32 (constant (F := Ideal) S_ .f32 0x00000000#32))

/-- Their number. -/
def countT (U : Nbhd) (a : Axes) : IVec S8x2048 32 :=
  Host.reduce IntOp.addi (extui 32 (sideT U a) natLt_1_32) (constantI S_ 32 0#32) reducesTo_S8x2048x32_S8x2048_d2 h_S_

/-- The sign that turns an axis to the side of most neighbours. -/
def signT (U : Nbhd) (a : Axes) : Col :=
  select (cmpi .sge (countT U a) (subi (broadcastInDim S8x2048 ![] bcast_S_S8x2048 (constantI S_ 32 32#32)) (countT U a)))
    (everyTwice 0x3F800000#32) (everyTwice 0xBF800000#32)

/-- The axis turned. -/
def orientT (U : Nbhd) (a : Axes) : Axes :=
  mulf a (broadcastInDim S8x2048x3 ![0, 1, 2] bcast_S8x2048x1_S8x2048x3_0_1_2
    (broadcastInDim S8x2048x1 ![0, 1] bcast_S8x2048_S8x2048x1_0_1 (signT U a)))

/-- The coordinates of an axis. -/
def partT0 (a : Axes) : Col := shapeCast S8x2048 (extractStridedSlice S8x2048x1 ![0, 0, 0] a slices_S8x2048x3_S8x2048x1_0_0_0) shapeCasts_S8x2048x1_S8x2048
@[inherit_doc partT0]
def partT1 (a : Axes) : Col := shapeCast S8x2048 (extractStridedSlice S8x2048x1 ![0, 0, 1] a slices_S8x2048x3_S8x2048x1_0_0_1) shapeCasts_S8x2048x1_S8x2048
@[inherit_doc partT0]
def partT2 (a : Axes) : Col := shapeCast S8x2048 (extractStridedSlice S8x2048x1 ![0, 0, 2] a slices_S8x2048x3_S8x2048x1_0_0_2) shapeCasts_S8x2048x1_S8x2048

/-- A number in every coordinate. -/
def spreadT (a : Col) : Axes :=
  broadcastInDim S8x2048x3 ![0, 1, 2] bcast_S8x2048x1_S8x2048x3_0_1_2 (broadcastInDim S8x2048x1 ![0, 1] bcast_S8x2048_S8x2048x1_0_1 a)

/-- Three numbers as the coordinates of an axis. -/
def axisT (a b c : Col) : Axes :=
  select (broadcastInDim S8x2048x3 ![1, 2] bcast_S2048x3_S8x2048x3_1_2
      (cmpi .eq (iotaInDim S2048x3 32 1) (broadcastInDim S2048x3 ![] bcast_S_S2048x3 (constantI S_ 32 0#32)))) (spreadT a)
    (select (broadcastInDim S8x2048x3 ![1, 2] bcast_S2048x3_S8x2048x3_1_2
      (cmpi .eq (iotaInDim S2048x3 32 1) (broadcastInDim S2048x3 ![] bcast_S_S2048x3 (constantI S_ 32 1#32)))) (spreadT b) (spreadT c))

/-- The cross product. -/
def crossT (u v : Axes) : Axes :=
  axisT (subf (mulf (partT1 u) (partT2 v)) (mulf (partT2 u) (partT1 v)))
    (subf (mulf (partT2 u) (partT0 v)) (mulf (partT0 u) (partT2 v)))
    (subf (mulf (partT0 u) (partT1 v)) (mulf (partT1 u) (partT0 v)))

/-- An axis in every row. -/
def layT (a : Axes) : Mats :=
  broadcastInDim S8x2048x3x3 ![0, 1, 2, 3] bcast_S8x2048x1x3_S8x2048x3x3_0_1_2_3
    (broadcastInDim S8x2048x1x3 ![0, 1, 3] bcast_S8x2048x3_S8x2048x1x3_0_1_3 a)

/-- Three axes as the rows of a matrix. -/
def rowsT (a b c : Axes) : Mats :=
  select (broadcastInDim S8x2048x3x3 ![1, 2, 3] bcast_S2048x3x3_S8x2048x3x3_1_2_3
      (cmpi .eq (iotaInDim S2048x3x3 32 1) (broadcastInDim S2048x3x3 ![] bcast_S_S2048x3x3 (constantI S_ 32 0#32)))) (layT a)
    (select (broadcastInDim S8x2048x3x3 ![1, 2, 3] bcast_S2048x3x3_S8x2048x3x3_1_2_3
      (cmpi .eq (iotaInDim S2048x3x3 32 1) (broadcastInDim S2048x3x3 ![] bcast_S_S2048x3x3 (constantI S_ 32 1#32)))) (layT b) (layT c))

/-- The neighbours' planar coordinates in a frame. -/
def planeT (U : Nbhd) (L : Mats) : FVec Ideal S8x2048x32x2 .f32 :=
  extractStridedSlice S8x2048x32x2 ![0, 0, 0, 0] (Host.dotGeneral dot_S8x2048x32x3_S8x2048x3x3_S8x2048x32x3_3_3_2_2_01_01 none U L)
    slices_S8x2048x32x3_S8x2048x32x2_0_0_0_0

/-- The neighbours' distances. -/
def distT (U : Nbhd) : FVec Ideal S8x2048x32 .f32 :=
  Host.sqrt (addf (Host.reduceAdd (mulf U U) (constant (F := Ideal) S_ .f32 0x00000000#32) reducesTo_S8x2048x32x3_S8x2048x32_d3 h_S_)
    (broadcastInDim S8x2048x32 ![] bcast_S_S8x2048x32 (constant (F := Ideal) S_ .f32 0x2B8CBCCC#32)))

/-- The planar lengths. -/
def lengthT (T : FVec Ideal S8x2048x32x2 .f32) : FVec Ideal S8x2048x32 .f32 :=
  Host.sqrt (addf (Host.reduceAdd (mulf T T) (constant (F := Ideal) S_ .f32 0x00000000#32) reducesTo_S8x2048x32x2_S8x2048x32_d3 h_S_)
    (broadcastInDim S8x2048x32 ![] bcast_S_S8x2048x32 (constant (F := Ideal) S_ .f32 0x2B8CBCCC#32)))

/-- The planar coordinates stretched to the distances. -/
def mapT (U : Nbhd) (T : FVec Ideal S8x2048x32x2 .f32) : FVec Ideal S8x2x2048x32 .f32 :=
  transpose S8x2x2048x32 [0, 3, 1, 2]
    (mulf T (broadcastInDim S8x2048x32x2 ![0, 1, 2, 3] bcast_S8x2048x32x1_S8x2048x32x2_0_1_2_3
      (broadcastInDim S8x2048x32x1 ![0, 1, 2] bcast_S8x2048x32_S8x2048x32x1_0_1_2 (Host.divf (distT U) (lengthT T)))))
    transposes_S8x2048x32x2_S8x2x2048x32_0_3_1_2

/-- The frame of every point. -/
def frameT (U : Nbhd) (W : Mats) : Mats :=
  rowsT (orientT U (highT W)) (crossT (orientT U (lowT W)) (orientT U (highT W))) (orientT U (lowT W))

/-- The result from the matrices, the vectors and the offsets. -/
def finishT (A V : Mats) (U : Nbhd) : FVec Ideal S8x2x2048x32 .f32 := mapT U (planeT U (frameT U (sortedT A V)))

/-- What follows the loop is `finishT`. -/
theorem end_eq (s : State Ideal) : R_main_v180 s = finishT s.main_v63_2 s.main_v63_3 s.main_v63_4 := rfl

end Cert.Knn.Ref
-- ==== Proof.RRead.lean ====
/- The steps after the reference's loop, read at a point: the eigenvectors in the eigenvalues' order (`low_at`, `high_at`),
   the count of neighbours (`count_at`), an axis turned (`orient_at`), the cross product (`cross_at`), the frame
   (`frame_at`), and so the whole of them as `Point.finish` (`finish_at`). -/
module

public import proofs.«01_k».proof.Proof.REnd
public import Idealize.ShloMosaic.Lib.IndicatorCount
public import Idealize.ShloMosaic.Lib.StableHlo.Predicate

@[expose] public section

set_option maxRecDepth 16384

noncomputable section

namespace Cert.Knn.Ref

open Cert.ReferenceIdeal Cert.ReferenceIdeal.Gen Cert.ReferenceIdeal.Step Idealize.ShloMosaic Idealize.SL.Sem

/-- The axis of a point. -/
def axisOf (a : Axes) (b : Fin 8) (p : Fin 2048) : Fin 3 → EReal := fun q => a (ix3 b p q)

/-- The offsets of a point. -/
def nbhdOf (U : Nbhd) (b : Fin 8) (p : Fin 2048) : Fin 32 → Fin 3 → EReal := fun k q => U (ix4 b p k q)

variable (b : Fin 8) (p : Fin 2048)

theorem values_at (A : Mats) (i k : Fin 3) : valuesT A (ix4 b p i k) = matOf A b p k k := by
  pointwise [valuesT, matOf]
  fin_cases k <;> simp

theorem sorted_at (A V : Mats) (i k : Fin 3) : sortedT A V (ix4 b p i k) = Point.vector (matOf A b p, matOf V b p) k i := by
  unfold sortedT
  rw [sorted_vectors]
  simp only [values_at]
  rfl

theorem low_at (A V : Mats) : axisOf (lowT (sortedT A V)) b p = Point.vector (matOf A b p, matOf V b p) 0 := by
  funext q
  pointwise [axisOf, lowT, sorted_at]

theorem high_at (A V : Mats) : axisOf (highT (sortedT A V)) b p = Point.vector (matOf A b p, matOf V b p) 2 := by
  funext q
  pointwise [axisOf, highT, sorted_at]

section
variable (U : Nbhd) (a : Axes)

theorem side_at (k : Fin 32) : sideT U a (ix3 b p k) = 1#1 ↔ 0 ≤ Point.inner (nbhdOf U b p k) (axisOf a b p) := by
  have h : sideT U a (ix3 b p k) = BitVec.ofBool (decide (0 ≤ Point.inner (nbhdOf U b p k) (axisOf a b p))) := by
    pointwise [sideT, Point.inner, nbhdOf, axisOf, Fin.sum_univ_three]
  rw [h]
  by_cases h : 0 ≤ Point.inner (nbhdOf U b p k) (axisOf a b p) <;> simp [h]

theorem count_at : countT U a (ix2 b p) = BitVec.ofNat 32 (Point.count (nbhdOf U b p) (axisOf a b p)) := by
  have h : countT U a (ix2 b p)
      = (Finset.univ : Finset (Fin 32)).fold IntOp.addi (0#32) (fun k => (sideT U a (ix3 b p k)).setWidth 32) := by
    pointwise [countT]
  rw [h, IndicatorCount.fold_addi_setWidth_eq_card]
  exact congrArg (BitVec.ofNat 32) (congrArg Finset.card (Finset.ext fun k => by
    rw [Finset.mem_filter, Finset.mem_filter, side_at]))

/-- Of thirty-two, `c` are no fewer than the rest exactly when twice `c` is at least thirty-two. -/
theorem most_word (c : Fin 33) : IntOp.cmpi CmpIPredicate.sge (BitVec.ofNat 32 c.val) (IntOp.subi 32#32 (BitVec.ofNat 32 c.val))
    = BitVec.ofBool (decide (32 ≤ 2 * c.val)) := by
  revert c
  decide +kernel

theorem sign_at : signT U a (ix2 b p)
    = if 32 ≤ 2 * Point.count (nbhdOf U b p) (axisOf a b p) then 1 else Point.minusOne := by
  pointwise [signT, everyTwice, count_at, Point.minusOne]
  have hc : Point.count (nbhdOf U b p) (axisOf a b p) < 33 := by
    have h := Finset.card_le_univ (Finset.univ.filter fun k => 0 ≤ Point.inner (nbhdOf U b p k) (axisOf a b p))
    rw [Fintype.card_fin] at h
    exact Nat.lt_succ_of_le h
  rw [most_word ⟨_, hc⟩]
  by_cases h : 32 ≤ 2 * Point.count (nbhdOf U b p) (axisOf a b p) <;> simp [h, Scalar.select]

theorem orient_at : axisOf (orientT U a) b p = Point.orient (nbhdOf U b p) (axisOf a b p) := by
  funext q
  pointwise [axisOf, orientT, sign_at, Point.orient]

end

theorem axis_at (x y z : Col) : axisOf (axisT x y z) b p = ![x (ix2 b p), y (ix2 b p), z (ix2 b p)] := by
  funext q
  pointwise [axisOf, axisT, spreadT]
  fin_cases q <;> rfl

theorem cross_at (u v : Axes) : axisOf (crossT u v) b p = Point.cross (axisOf u b p) (axisOf v b p) := by
  rw [crossT, axis_at]
  funext q
  pointwise [partT0, partT1, partT2, Point.cross, axisOf]

theorem rows_at (x y z : Axes) (i : Fin 3) : matOf (rowsT x y z) b p i = ![axisOf x b p, axisOf y b p, axisOf z b p] i := by
  funext q
  pointwise [matOf, rowsT, layT]
  fin_cases i <;> rfl

theorem plane_at (U : Nbhd) (L : Mats) (k : Fin 32) (a : Fin 2) :
    planeT U L (ix4 b p k a) = Point.flat (matOf L b p 0) (matOf L b p 1) (nbhdOf U b p) a k := by
  pointwise [planeT, matOf, nbhdOf, Point.flat, Point.inner, Fin.sum_univ_three]
  fin_cases a <;> rfl

theorem dist_at (U : Nbhd) (k : Fin 32) : distT U (ix3 b p k) = Point.dist (nbhdOf U b p) k := by
  pointwise [distT, Point.dist, Point.inner, nbhdOf, Point.eps, Fin.sum_univ_three]

/-- The result of what follows the loop, at a point. -/
theorem finish_at (A V : Mats) (U : Nbhd) (a : Fin 2) (k : Fin 32) :
    finishT A V U (ix4 b a p k) = Point.finish (matOf A b p, matOf V b p) (nbhdOf U b p) a k := by
  have hX : matOf (frameT U (sortedT A V)) b p 0 = Point.orient (nbhdOf U b p) (Point.vector (matOf A b p, matOf V b p) 2) := by
    rw [frameT, rows_at, ← high_at, ← orient_at]
    rfl
  have hY : matOf (frameT U (sortedT A V)) b p 1 = Point.cross (Point.orient (nbhdOf U b p) (Point.vector (matOf A b p, matOf V b p) 0))
      (Point.orient (nbhdOf U b p) (Point.vector (matOf A b p, matOf V b p) 2)) := by
    rw [frameT, rows_at, ← high_at, ← low_at, ← orient_at, ← orient_at, ← cross_at]
    rfl
  rw [Point.finish, ← hY, ← hX]
  pointwise [finishT, mapT, lengthT, dist_at, plane_at, Point.spread, Point.eps, Fin.sum_univ_two]

end Cert.Knn.Ref
-- ==== Proof.RValue.lean ====
/- The reference's result: the loop's matrices after `n` trips are `n` sweeps of the covariance and of the unit matrix
   (`loop_at`), the offsets stay (`loop_offsets`), so the result of ten trips is the result of the point (`value_at`). -/
module

public import proofs.«01_k».proof.Proof.RStart
public import proofs.«01_k».proof.Proof.RRead

@[expose] public section

set_option maxRecDepth 16384

noncomputable section

namespace Cert.Knn.Ref

open Cert.ReferenceIdeal Cert.ReferenceIdeal.Gen Cert.ReferenceIdeal.Step Idealize.ShloMosaic Idealize.SL.Sem

/-- The loop's state before trip `n`. -/
def trips (x : FVec Ideal S8x2048x3 .f32) : ℕ → State Ideal
  | 0 => init x
  | n + 1 => step n (trips x n)

variable (x : FVec Ideal S8x2048x3 .f32) (b : Fin 8) (p : Fin 2048)

/-- No trip changes the offsets. -/
theorem loop_offsets (n : ℕ) : (trips x n).main_v63_4 = A_main_v32 (F := Ideal) x := by
  induction n with
  | zero => rfl
  | succ n ih => exact ih

variable (hd : ∀ j, Point.gap (cloud x b) p j < ⊤)
include hd

/-- After `n` trips a point's matrices are `n` sweeps of its covariance and of the unit matrix. -/
theorem loop_at (n : ℕ) : (matOf (trips x n).main_v63_2 b p, matOf (trips x n).main_v63_3 b p)
    = Point.sweeps (Point.covar (Point.reach (cloud x b) p) (Point.offset (cloud x b) p), Point.unit) n := by
  induction n with
  | zero => exact congrArg₂ Prod.mk (covar_at x b p hd) (unit_at b p)
  | succ n ih =>
    rw [Point.sweeps, ← ih]
    exact step_at n (trips x n) b p

/-- The reference's result at a point. -/
theorem value_at (a : Fin 2) (k : Fin 32) : R_main_v180 (trips x 10) (ix4 b a p k) = Point.result (cloud x b) p a k := by
  have hU : nbhdOf (trips x 10).main_v63_4 b p = Point.offset (cloud x b) p := by
    funext k q
    rw [nbhdOf, loop_offsets]
    exact offset_at x b p hd k q
  rw [end_eq, finish_at, hU, loop_at x b p hd, Point.result]

end Cert.Knn.Ref
-- ==== Proof.Finite.lean ====
/- What the precondition gives: every coordinate is a real number (`coordinate_real`), so every squared distance is below `⊤`
   (`gap_lt`). -/
module

public import proofs.«01_k».proof.Proof.Gen.Pre_finite
public import proofs.«01_k».proof.Proof.Point
public import Idealize.ShloMosaic.Lib.Pointwise

@[expose] public section

set_option maxRecDepth 16384

noncomputable section

namespace Cert.Knn

open Idealize.ShloMosaic Idealize.SL.Sem

/-- The coordinates the precondition accepts are real numbers. -/
theorem coordinate_real (x : FVec Ideal Cert.Pre_finite.S8x2048x3 .f32) (h : Cert.Pre_finite.fn (F := Ideal) x = fun _ => 1#1)
    (b : Fin 8) (j : Fin 2048) (q : Fin 3) : ∃ r : ℝ, x (ix3 b j q) = (r : EReal) := by
  have hi : Ideal.ofBits .f32 0x7F800000#32 = ⊤ := by simp [Ideal.ofBits, Ideal.ieee]
  have h1 : Cert.Pre_finite.fn (F := Ideal) x (ix3 b j q) = 1#1 := congrFun h _
  have h2 : Cert.Pre_finite.fn (F := Ideal) x (ix3 b j q)
      = BitVec.ofBool (decide (max (x (ix3 b j q)) (-x (ix3 b j q)) < Ideal.ofBits .f32 0x7F800000#32)) := by
    rfl
  rw [h2, hi] at h1
  have h3 : max (x (ix3 b j q)) (-x (ix3 b j q)) < ⊤ := by
    by_contra hn
    simp [hn] at h1
  generalize x (ix3 b j q) = v at h3
  induction v using EReal.rec with
  | bot => simp at h3
  | top => simp at h3
  | coe r => exact ⟨r, rfl⟩

theorem two_real : ∃ e : ℝ, Point.two = (e : EReal) :=
  ⟨_, by simp [Point.two, Ideal.ofBits, Ideal.ieee, -EReal.coe_mul]; rfl⟩

/-- The squared distance of points with real coordinates is below `⊤`. -/
theorem gap_lt {n : ℕ} (x : Fin n → Fin 3 → EReal) (h : ∀ j q, ∃ r : ℝ, x j q = (r : EReal)) (p j : Fin n) :
    Point.gap x p j < ⊤ := by
  choose r hr using h
  obtain ⟨e, he⟩ := two_real
  have hi : ∀ i j, Point.inner (x i) (x j) = ((r i 0 * r j 0 + r i 1 * r j 1 + r i 2 * r j 2 : ℝ) : EReal) := by
    intro i j
    simp only [Point.inner, hr, EReal.coe_add, EReal.coe_mul]
  rw [Point.gap, hi, hi, hi, he, ← EReal.coe_mul, ← EReal.coe_sub, ← EReal.coe_add]
  exact max_lt (EReal.coe_lt_top _) EReal.zero_lt_top

end Cert.Knn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.StepRun
public import proofs.«01_k».proof.Proof.Gen.KernelIdeal.Value
public import proofs.«01_k».proof.Proof.KValue
public import proofs.«01_k».proof.Proof.RValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- Under the precondition the reference's ten trips give the array the kernel leaves. -/
theorem results_agree (m : (ℓ : Loc Cert.KernelIdeal.nD Cert.KernelIdeal.τ Cert.KernelIdeal.sig) → Buf (Elt Ideal) ℓ)
    (hm : Cert.Pre_KernelIdeal_finite m) (c : Dev Cert.KernelIdeal.nD) :
    Cert.ReferenceIdeal.Step.R_main_v180 (Cert.Knn.Ref.trips (m ((c.tc : Thread Cert.KernelIdeal.nD Cert.KernelIdeal.τ).loc Cert.KernelIdeal.main_arg0)) 10)
      = (Cert.KernelIdeal.Gen.dats m 0 c).arrAt 3 Cert.KernelIdeal.cfg0.N := by
  have hr := Cert.Knn.coordinate_real _ (hm c)
  funext i
  obtain ⟨b, a, p, k, rfl⟩ : ∃ (b : Fin 8) (a : Fin 2) (p : Fin 2048) (k : Fin 32), i = ix4 b a p k :=
    ⟨i 0, i 1, i 2, i 3, by funext d; fin_cases d <;> rfl⟩
  have hd := Cert.Knn.gap_lt _ (hr b) p
  exact (Cert.Knn.Ref.value_at _ b p hd a k).trans (Cert.Knn.final_at m c b p hd a k).symm

/-- The kernel and the reference end with the same result. -/
theorem algebraic : Cert.algebraic_KernelIdeal_ReferenceIdeal_pre_finite := by
  intro m g m' g' hm harg
  refine ⟨fun c => (Cert.KernelIdeal.Gen.dats m 0 c).arrAt 3 Cert.KernelIdeal.cfg0.N, Cert.KernelIdeal.Value.run_blocks m g, ?_⟩
  refine (θ_run _ _ _).mono (fun r h c => ⟨(h c).1.trans ?_, (h c).2⟩)
    (Cert.ReferenceIdeal.StepRun.run_iter m' g' (fun c => Cert.Knn.Ref.trips (m' ((c.tc : Thread Cert.ReferenceIdeal.nD Cert.ReferenceIdeal.τ).loc Cert.ReferenceIdeal.main_arg0)))
      (fun _ => rfl) (fun _ _ => rfl))
  rw [harg c]
  exact results_agree m hm c

/-- The reference terminates with its argument kept and no counter raised: it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems rfl _⟩) (Cert.ReferenceIdeal.Value.run m g)

/-- Every claim. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m g _ => reference_frame m g, fun m g _ => reference_frame m g, trivial, algebraic⟩

end Cert.Proof

end
